-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S2x512x2048 : Shape := ⟨3, ![2, 512, 2048]⟩
abbrev S2 : Shape := ⟨1, ![2]⟩
abbrev S8 : Shape := ⟨1, ![8]⟩
abbrev S512x512 : Shape := ⟨2, ![512, 512]⟩
abbrev S1x512x512 : Shape := ⟨3, ![1, 512, 512]⟩
abbrev S_ : Shape := ⟨0, ![]⟩
abbrev S1 : Shape := ⟨1, ![1]⟩
abbrev S1x512x2048 : Shape := ⟨3, ![1, 512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S8x512x512, .bf16⟩
  | .local _ .vmem, ⟨3, _⟩ => ⟨S8x512x512, .bf16⟩
  | .local _ .vmem, ⟨4, _⟩ => ⟨S2x512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v52 : BitVec 32 := Scalar.addi v2 c1_i32_25
  let c8_i32_26 : BitVec 32 := 8#32
  let v53 : BitVec 32 := Scalar.remsi v52 c8_i32_26
  let c1_i32_28 : BitVec 32 := 1#32
  let v54 : BitVec 32 := Scalar.muli v53 c1_i32_28
  let v55 : BitVec 32 := Scalar.addi c0_i32 v54
  v55.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v56 : BitVec 32 := Scalar.addi v2 c2_i32
  let c8_i32_29 : BitVec 32 := 8#32
  let v57 : BitVec 32 := Scalar.remsi v56 c8_i32_29
  let c1_i32_31 : BitVec 32 := 1#32
  let v58 : BitVec 32 := Scalar.muli v57 c1_i32_31
  let v59 : BitVec 32 := Scalar.addi c0_i32_32 v58
  v59.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v60 : BitVec 32 := Scalar.addi v2 c3_i32
  let c8_i32_33 : BitVec 32 := 8#32
  let v61 : BitVec 32 := Scalar.remsi v60 c8_i32_33
  let c1_i32_35 : BitVec 32 := 1#32
  let v62 : BitVec 32 := Scalar.muli v61 c1_i32_35
  let v63 : BitVec 32 := Scalar.addi c0_i32_36 v62
  v63.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v64 : BitVec 32 := Scalar.addi v2 c4_i32
  let c8_i32_37 : BitVec 32 := 8#32
  let v65 : BitVec 32 := Scalar.remsi v64 c8_i32_37
  let c1_i32_39 : BitVec 32 := 1#32
  let v66 : BitVec 32 := Scalar.muli v65 c1_i32_39
  let v67 : BitVec 32 := Scalar.addi c0_i32_40 v66
  v67.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v68 : BitVec 32 := Scalar.addi v2 c5_i32
  let c8_i32_41 : BitVec 32 := 8#32
  let v69 : BitVec 32 := Scalar.remsi v68 c8_i32_41
  let c1_i32_43 : BitVec 32 := 1#32
  let v70 : BitVec 32 := Scalar.muli v69 c1_i32_43
  let v71 : BitVec 32 := Scalar.addi c0_i32_44 v70
  v71.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v72 : BitVec 32 := Scalar.addi v2 c6_i32
  let c8_i32_45 : BitVec 32 := 8#32
  let v73 : BitVec 32 := Scalar.remsi v72 c8_i32_45
  let c1_i32_47 : BitVec 32 := 1#32
  let v74 : BitVec 32 := Scalar.muli v73 c1_i32_47
  let v75 : BitVec 32 := Scalar.addi c0_i32_48 v74
  v75.toNat
def k0_dev7 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v76 : BitVec 32 := Scalar.addi v2 c7_i32
  let c8_i32_49 : BitVec 32 := 8#32
  let v77 : BitVec 32 := Scalar.remsi v76 c8_i32_49
  let c1_i32_51 : BitVec 32 := 1#32
  let v78 : BitVec 32 := Scalar.muli v77 c1_i32_51
  let v79 : BitVec 32 := Scalar.addi c0_i32_52 v78
  v79.toNat
def k0_off1 (d0 : Dev nD) (c1_i32_54 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v80 : BitVec 32 := Scalar.addi v2 c1_i32_54
  let c8_i32_55 : BitVec 32 := 8#32
  let v81 : BitVec 32 := Scalar.remsi v80 c8_i32_55
  let c0_i32_63 : BitVec 32 := 0#32
  let c0_i32_64 : BitVec 32 := 0#32
  ![v81.toNat, 0, 0]
def k0_dev8 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v80 : BitVec 32 := Scalar.addi v2 c1_i32_54
  let c8_i32_55 : BitVec 32 := 8#32
  let v81 : BitVec 32 := Scalar.remsi v80 c8_i32_55
  let c1_i32_59 : BitVec 32 := 1#32
  let v82 : BitVec 32 := Scalar.muli v81 c1_i32_59
  let v83 : BitVec 32 := Scalar.addi c0_i32_60 v82
  v83.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_65 : BitVec 32 := 2#32
  let v92 : BitVec 32 := Scalar.addi v2 c2_i32_65
  let c8_i32_66 : BitVec 32 := 8#32
  let v93 : BitVec 32 := Scalar.remsi v92 c8_i32_66
  let c1_i32_70 : BitVec 32 := 1#32
  let v94 : BitVec 32 := Scalar.muli v93 c1_i32_70
  let v95 : BitVec 32 := Scalar.addi c0_i32_71 v94
  v95.toNat
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_76 : BitVec 32 := 3#32
  let v104 : BitVec 32 := Scalar.addi v2 c3_i32_76
  let c8_i32_77 : BitVec 32 := 8#32
  let v105 : BitVec 32 := Scalar.remsi v104 c8_i32_77
  let c1_i32_81 : BitVec 32 := 1#32
  let v106 : BitVec 32 := Scalar.muli v105 c1_i32_81
  let v107 : BitVec 32 := Scalar.addi c0_i32_82 v106
  v107.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_87 : BitVec 32 := 4#32
  let v116 : BitVec 32 := Scalar.addi v2 c4_i32_87
  let c8_i32_88 : BitVec 32 := 8#32
  let v117 : BitVec 32 := Scalar.remsi v116 c8_i32_88
  let c1_i32_92 : BitVec 32 := 1#32
  let v118 : BitVec 32 := Scalar.muli v117 c1_i32_92
  let v119 : BitVec 32 := Scalar.addi c0_i32_93 v118
  v119.toNat
def k0_dev12 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_98 : BitVec 32 := 5#32
  let v128 : BitVec 32 := Scalar.addi v2 c5_i32_98
  let c8_i32_99 : BitVec 32 := 8#32
  let v129 : BitVec 32 := Scalar.remsi v128 c8_i32_99
  let c1_i32_103 : BitVec 32 := 1#32
  let v130 : BitVec 32 := Scalar.muli v129 c1_i32_103
  let v131 : BitVec 32 := Scalar.addi c0_i32_104 v130
  v131.toNat
def k0_dev13 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_109 : BitVec 32 := 6#32
  let v140 : BitVec 32 := Scalar.addi v2 c6_i32_109
  let c8_i32_110 : BitVec 32 := 8#32
  let v141 : BitVec 32 := Scalar.remsi v140 c8_i32_110
  let c1_i32_114 : BitVec 32 := 1#32
  let v142 : BitVec 32 := Scalar.muli v141 c1_i32_114
  let v143 : BitVec 32 := Scalar.addi c0_i32_115 v142
  v143.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_120 : BitVec 32 := 7#32
  let v152 : BitVec 32 := Scalar.addi v2 c7_i32_120
  let c8_i32_121 : BitVec 32 := 8#32
  let v153 : BitVec 32 := Scalar.remsi v152 c8_i32_121
  let c1_i32_125 : BitVec 32 := 1#32
  let v154 : BitVec 32 := Scalar.muli v153 c1_i32_125
  let v155 : BitVec 32 := Scalar.addi c0_i32_126 v154
  v155.toNat
def k0_off2 (d0 : Dev nD) (c0_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v164 : BitVec 32 := Scalar.subi v2 c0_i32_131
  let c8_i32_132 : BitVec 32 := 8#32
  let v165 : BitVec 32 := Scalar.addi v164 c8_i32_132
  let c8_i32_133 : BitVec 32 := 8#32
  let v166 : BitVec 32 := Scalar.remsi v165 c8_i32_133
  let c512_i32 : BitVec 32 := 512#32
  let v167 : BitVec 32 := Scalar.muli v166 c512_i32
  let c0_i32_138 : BitVec 32 := 0#32
  ![v167.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v187 : Index := Scalar.indexCast v2
  let c0_153 : Index := 0#32
  let c0_154 : Index := 0#32
  ![v187.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Slots.lean ====
/-
# The kernel's buffers, slot by slot

The two exchange buffers hold eight slots of one 512x512 block, the weight
buffer two slots of one 512x2048 block. A slot is the set of elements whose
leading coordinate is the slot's number. This module states, once for every
slot, which elements a slice of a buffer names and where it places an index.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI

/-! ## The devices around the ring -/

/-- The device `e + 1` places after `c`: the target of transfer `e`. -/
def after (c : Dev nD) (e : Fin 7) : Dev nD := ⟨(c.val + e.val + 1) % 8, Nat.mod_lt _ (by decide)⟩

/-- The device `d` places before `c`. -/
def back (c : Dev nD) (d : ℕ) : Dev nD := ⟨(c.val + 8 - d) % 8, Nat.mod_lt _ (by decide)⟩

/-- A device is the one `e + 1` places before the device it sends to by transfer `e`. -/
theorem back_after (c : Dev nD) (e : Fin 7) : back (after c e) (e.val + 1) = c := by revert c e; decide
theorem after_back (c : Dev nD) (e : Fin 7) : after (back c (e.val + 1)) e = c := by revert c e; decide
/-- Going on by the opposite transfer's distance leads back to the start. -/
theorem after_after_rev (c : Dev nD) (e : Fin 7) : after (after c e) e.rev = c := by revert c e; decide
theorem after_ne (c : Dev nD) (e : Fin 7) : after c e ≠ c := by revert c e; decide
theorem after_inj (c : Dev nD) (e e' : Fin 7) (h : after c e = after c e') : e = e' := by revert c e e'; decide

/-- The devices renamed by the distance of transfer `e`. -/
def turn (e : Fin 7) : Dev nD ≃ Dev nD := ⟨fun c => after c e, fun c => back c (e.val + 1), fun c => back_after c e, fun c => after_back c e⟩

/-! ## The memrefs -/

abbrev xM : Memref sig .tc .vmem S4096x512 .f32 := Memref.whole cc0_stg0_0
abbrev wM : Memref sig .tc .hbm S4096x2048 .f32 := Memref.whole main_arg1
abbrev oM : Memref sig .tc .vmem S512x2048 .f32 := Memref.whole cc0_stg1_0
abbrev sM : Memref sig .tc .vmem S8x512x512 .bf16 := Memref.whole cc0_scratch0
abbrev gM : Memref sig .tc .vmem S8x512x512 .bf16 := Memref.whole cc0_scratch1
abbrev tM : Memref sig .tc .vmem S2x512x2048 .f32 := Memref.whole cc0_scratch2

/-! ## Slots of a buffer of blocks -/

section Generic
variable {n A B : ℕ}

/-- The elements of slot `k`: those of leading coordinate `k`. -/
def slot (k : ℕ) : Finset (⟨3, ![n, A, B]⟩ : Shape).Idx := Finset.univ.filter fun i => (i 0).val = k

theorem mem_slot {k : ℕ} {i : (⟨3, ![n, A, B]⟩ : Shape).Idx} : i ∈ slot k ↔ (i 0).val = k := by simp [slot]

/-- An index of a block, placed in slot `k`. -/
def inSlot (k : Fin n) (j : (⟨2, ![A, B]⟩ : Shape).Idx) : (⟨3, ![n, A, B]⟩ : Shape).Idx := fun a => match a with
  | 0 => k | 1 => j 0 | 2 => j 1

/-- The same for a block with a leading axis of size one. -/
def inSlot' (k : Fin n) (j : (⟨3, ![1, A, B]⟩ : Shape).Idx) : (⟨3, ![n, A, B]⟩ : Shape).Idx := fun a => match a with
  | 0 => k | 1 => j 1 | 2 => j 2

/-- The index in its block of an element of the buffer, -/
def inBlock (i : (⟨3, ![n, A, B]⟩ : Shape).Idx) : (⟨2, ![A, B]⟩ : Shape).Idx := fun a => match a with
  | 0 => i 1 | 1 => i 2
/-- and in its block with the leading axis kept. -/
def inBlock' (i : (⟨3, ![n, A, B]⟩ : Shape).Idx) : (⟨3, ![1, A, B]⟩ : Shape).Idx := fun a => match a with
  | 0 => ⟨0, Nat.one_pos⟩ | 1 => i 1 | 2 => i 2

theorem inSlot_inBlock {k : Fin n} {i : (⟨3, ![n, A, B]⟩ : Shape).Idx} (h : i ∈ slot k.val) : inSlot k (inBlock i) = i := by
  funext a; fin_cases a <;> first | rfl | exact Fin.ext (mem_slot.mp h).symm
theorem inSlot_inBlock' {k : Fin n} {i : (⟨3, ![n, A, B]⟩ : Shape).Idx} (h : i ∈ slot k.val) : inSlot' k (inBlock' i) = i := by
  funext a; fin_cases a <;> first | rfl | exact Fin.ext (mem_slot.mp h).symm

/-- Different slots share no element, and the slots are the whole buffer. -/
theorem slot_disjoint (k k' : Fin n) (h : k ≠ k') : Disjoint (slot (n := n) (A := A) (B := B) k.val) (slot k'.val) :=
  Finset.disjoint_left.mpr fun i h₁ h₂ => h (Fin.ext ((mem_slot.mp h₁).symm.trans (mem_slot.mp h₂)))
theorem slot_cover : (Finset.univ : Finset (Fin n)).biUnion (fun k => slot (n := n) (A := A) (B := B) k.val) = Finset.univ :=
  Finset.eq_univ_of_forall fun i => Finset.mem_biUnion.mpr ⟨i 0, Finset.mem_univ _, mem_slot.mpr rfl⟩

variable {off : Fin 3 → ℕ} {inb : ∀ a, off a + (![1, A, B] : Fin 3 → ℕ) a ≤ (![n, A, B] : Fin 3 → ℕ) a}

/-- A rectangle of one block at offset `k` is slot `k`, -/
theorem unit_set {k : ℕ} (h : off = ![k, 0, 0]) : (Rect.unit (s := ⟨3, ![n, A, B]⟩) off ![1, A, B] inb).set = slot k := by
  subst h
  ext i
  rw [Rect.mem_set_unit, mem_slot]
  have h1 := (i 1).isLt; have h2 := (i 2).isLt
  constructor
  · intro h; have := h 0; simp at this; omega
  · intro h a
    fin_cases a <;> simp at * <;> omega

/-- and places an index of the block in it, -/
theorem unit_emb' (k : Fin n) (h : off = ![k.val, 0, 0]) (j : (⟨3, ![1, A, B]⟩ : Shape).Idx) :
    (Rect.unit (s := ⟨3, ![n, A, B]⟩) off ![1, A, B] inb).emb j = inSlot' k j := by
  subst h
  have h0 := (j 0).isLt
  funext a; apply Fin.ext
  fin_cases a <;> simp [inSlot'] at *
  exact h0

/-- the leading axis dropped too. -/
theorem unit_emb (k : Fin n) (h : off = ![k.val, 0, 0]) (hn : (⟨2, ![A, B]⟩ : Shape).numel = (⟨3, ![1, A, B]⟩ : Shape).numel)
    (j : (⟨2, ![A, B]⟩ : Shape).Idx) :
    (Rect.unit (s := ⟨3, ![n, A, B]⟩) off ![1, A, B] inb).emb (Shape.reshapeEquiv hn j) = inSlot k j := by
  rw [Shape.reshapeEquiv_cons_one, unit_emb' k h]
  funext a; fin_cases a <;> rfl

end Generic

/-! ## Slices of the exchange buffers -/

/-- The slice of one block at an offset, its leading axis dropped. -/
abbrev cut (m : Memref sig .tc .vmem S8x512x512 .bf16) (off : Fin 3 → ℕ) (inb : ∀ a, off a + S1x512x512.size a ≤ S8x512x512.size a) :
    Memref sig .tc .vmem S512x512 .bf16 :=
  (m.slice (Rect.unit (s := S8x512x512) off S1x512x512.size inb) (fun _ => rfl)).squeeze S512x512 squeezes_S1x512x512_S512x512

/-- The slice of one block of the weight buffer. -/
abbrev wcut (off : Fin 3 → ℕ) (inb : ∀ a, off a + S1x512x2048.size a ≤ S2x512x2048.size a) : Memref sig .tc .vmem S512x2048 .f32 :=
  (tM.slice (Rect.unit (s := S2x512x2048) off S1x512x2048.size inb) (fun _ => rfl)).squeeze S512x2048 squeezes_S1x512x2048_S512x2048

section
variable {off : Fin 3 → ℕ} {inb : ∀ a, off a + S1x512x512.size a ≤ S8x512x512.size a}

theorem set_cut_s {k : ℕ} (h : off = ![k, 0, 0]) : (cut sM off inb).view.set = slot (n := 8) (A := 512) (B := 512) k :=
  (View.set_reshape _ _).trans ((View.set_slice_whole cc0_scratch0 _).trans (unit_set h))
theorem set_cut_g {k : ℕ} (h : off = ![k, 0, 0]) : (cut gM off inb).view.set = slot (n := 8) (A := 512) (B := 512) k :=
  (View.set_reshape _ _).trans ((View.set_slice_whole cc0_scratch1 _).trans (unit_set h))

theorem emb_cut_s (k : Fin 8) (h : off = ![k.val, 0, 0]) (j : S512x512.Idx) : (cut sM off inb).view.emb j = inSlot k j :=
  unit_emb (inb := inb) k h _ j
theorem emb_cut_g (k : Fin 8) (h : off = ![k.val, 0, 0]) (j : S512x512.Idx) : (cut gM off inb).view.emb j = inSlot k j :=
  unit_emb (inb := inb) k h _ j
end

section
variable {off : Fin 3 → ℕ} {inb : ∀ a, off a + S1x512x2048.size a ≤ S2x512x2048.size a}

theorem set_wcut {k : ℕ} (h : off = ![k, 0, 0]) : (wcut off inb).view.set = slot (n := 2) (A := 512) (B := 2048) k :=
  (View.set_reshape _ _).trans ((View.set_slice_whole cc0_scratch2 _).trans (unit_set h))
theorem emb_wcut (k : Fin 2) (h : off = ![k.val, 0, 0]) (j : S512x2048.Idx) : (wcut off inb).view.emb j = inSlot k j :=
  unit_emb (inb := inb) k h _ j
end

end Cert.Exchange

end
-- ==== Proof.Protocol.lean ====
/-
# The exchange: what the buffers hold, and who hands what to whom

Device `c` sends the block of its columns that device `c + d` needs to slot `d`
of that device, for `d = 1, …, 7`. Transfer `e` below is the one of distance
`e + 1`. Before it, device `c` has told each peer through the peer's barrier
semaphore that it entered the kernel; the unit it pays to the device `e + 1`
places after it carries the slot of `c` that this device writes into.

* Barrier cell of `c`: seven duties of one unit each; duty `e` is paid by the
  device `c` sends to by transfer `e`, and hands over the slot written.
* Receive cell `e` of `c`: one duty, paid by the transfer that fills slot
  `e + 1`; it hands over the slot, filled.
* Send cell `e` of `c`: one duty, paid by `c`'s own transfer; it hands back
  the slot sent.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, the exchange's rounds, and the counters of the local copies. -/
abbrev UB : Type := URounds (GSem nD τ sig) (Fin 7)
abbrev UU : Type := UR sig nD τ × UB × Counters

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn
    (upEmb : UEmb _ (MT nD τ sig Unit (Elt F) ℕ UU ℕ)) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s columns of the left operand, and its copy of the right one. -/
def xstg (c : Dev nD) : (cc0_stg0_0 : Ref sig .tc).ty.Contents (Elt F) :=
  (win0_0.blk (0 : Fin 1)).view.read (Elt F) ((s₀ m ρ).mem ((c : Thread nD τ).loc main_arg0))
def wAt (c : Dev nD) : (main_arg1 : Ref sig .tc).ty.Contents (Elt F) := m ((c : Thread nD τ).loc main_arg1)

/-- Row `512 r + j₀` of the left operand's columns. -/
def xIdx (r : Fin 8) (j : S512x512.Idx) : S4096x512.Idx := fun a => match a with
  | 0 => ⟨512 * r.val + (j 0).val, by have := r.isLt; have := (j 0).isLt; simp at *; omega⟩ | 1 => j 1
/-- Row `512 k + j₁` of the right operand. -/
def wIdx (k : Fin 8) (j : S1x512x2048.Idx) : S4096x2048.Idx := fun a => match a with
  | 0 => ⟨512 * k.val + (j 1).val, by have := k.isLt; have := (j 1).isLt; simp at *; omega⟩ | 1 => j 2

/-- The rows of device `c`'s columns that device `r` needs. -/
def xrow (c : Dev nD) (r : Fin 8) : Vec F S512x512 .f32 := fun j => xstg m ρ c (xIdx r j)

/-- The send buffer once filled: slot `r` holds the block device `r` needs, rounded. -/
def XS (c : Dev nD) : (cc0_scratch0 : Ref sig .tc).ty.Contents (Elt F) := fun i => k0_pay1 (xrow m ρ c (i 0)) (inBlock' i)

/-- The receive buffer once filled: slot `d` holds the block that the device `d` places before `c` prepared for it. -/
def XG (c : Dev nD) : (cc0_scratch1 : Ref sig .tc).ty.Contents (Elt F) := fun i =>
  XS m ρ (back c (i 0).val) (inSlot (n := 8) c (inBlock (n := 8) (A := 512) (B := 512) i))

/-- The two blocks multiplied at step `d`: the left one is from the device `d` places before `c`, the right one is
    the rows of the right operand that meet that device's columns. -/
def xblk (c : Dev nD) (d : ℕ) : Vec F S1x512x512 .bf16 := fun j => XS m ρ (back c d) (inSlot' (n := 8) c j)
def wblk (c : Dev nD) (d : ℕ) : Vec F S1x512x2048 .f32 := fun j => wAt m c (wIdx (back c d) j)

/-- A slot of the weight buffer filled for step `d`. -/
def XT (c : Dev nD) (d : ℕ) : (cc0_scratch2 : Ref sig .tc).ty.Contents (Elt F) := fun i =>
  wblk m c d (inBlock' (n := 2) (A := 512) (B := 2048) i)

/-- The result after step `d`: the sum of the products of steps `0, …, d`. -/
def acc (c : Dev nD) : ℕ → Vec F S512x2048 .f32
  | 0 => k0_pay10 (xblk m ρ c 0) (wblk m c 0)
  | d + 1 => k0_pay11 (xblk m ρ c (d + 1)) (wblk m c (d + 1)) (acc c d)

/-! ## Cells -/

/-- The barrier semaphore, the send and receive semaphores of transfer `e`, the weight copies' semaphores. -/
abbrev barS : Sem sig := (SemArray.scalar (sig.barrier 0 rfl) : Sems sig S_).sem
abbrev wS (k : Fin 2) : DmaSem sig := ⟨2 + k.val, by have := k.isLt; show 2 + k.val < 20; omega⟩
abbrev sS (e : Fin 7) : DmaSem sig := ⟨5 + e.val, by have := e.isLt; show 5 + e.val < 20; omega⟩
abbrev rS (e : Fin 7) : DmaSem sig := ⟨13 + e.val, by have := e.isLt; show 13 + e.val < 20; omega⟩

abbrev barCell (c : Dev nD) : GSem nD τ sig := ((c : Thread nD τ), .reg barS)
abbrev wCell (c : Dev nD) (k : Fin 2) : GSem nD τ sig := ((c : Thread nD τ), .dma (wS k))
abbrev sendCell (c : Dev nD) (e : Fin 7) : GSem nD τ sig := ((c : Thread nD τ), .dma (sS e))
abbrev recvCell (c : Dev nD) (e : Fin 7) : GSem nD τ sig := ((c : Thread nD τ), .dma (rS e))

/-- What a transfer of one block adds to a semaphore. -/
def N : ℕ := (cut gM ![0, 0, 0] inb_S8x512x512_S1x512x512_0_0_0).view.dmaCredit
theorem N_pos : 0 < N := View.dmaCredit_pos _ (by decide)

/-! ## Holdings -/

/-- Slot `k` of device `c`'s send, receive and weight buffer. -/
def sPts (c : Dev nD) (k : ℕ) (f : Buf (Elt F) ((c : Thread nD τ).loc cc0_scratch0)) : sProp 𝕄 :=
  ((c : Thread nD τ).loc cc0_scratch0) ↦[slot (n := 8) (A := 512) (B := 512) k]{fullShare} f
def gPts (c : Dev nD) (k : ℕ) (f : Buf (Elt F) ((c : Thread nD τ).loc cc0_scratch1)) : sProp 𝕄 :=
  ((c : Thread nD τ).loc cc0_scratch1) ↦[slot (n := 8) (A := 512) (B := 512) k]{fullShare} f
def tPts (c : Dev nD) (k : ℕ) (f : Buf (Elt F) ((c : Thread nD τ).loc cc0_scratch2)) : sProp 𝕄 :=
  ((c : Thread nD τ).loc cc0_scratch2) ↦[slot (n := 2) (A := 512) (B := 2048) k]{fullShare} f

omit [FloatOps F] in
instance sPts_storable (c : Dev nD) (k f) : BI.Storable (upEmb : UEmb _ 𝕄) (sPts (F := F) c k f) := by unfold sPts; infer_instance
omit [FloatOps F] in
instance gPts_storable (c : Dev nD) (k f) : BI.Storable (upEmb : UEmb _ 𝕄) (gPts (F := F) c k f) := by unfold gPts; infer_instance

/-! ## The schedule -/

def barPay (c : Dev nD) (e : Fin 7) : sProp 𝕄 := iprop(∃ f, gPts (after c e) (e.val + 1) f)
def sendPay (c : Dev nD) (e : Fin 7) : sProp 𝕄 := sPts c (after c e).val (XS m ρ c)
def recvPay (c : Dev nD) (e : Fin 7) : sProp 𝕄 := gPts c (e.val + 1) (XG m ρ c)

/-- A barrier semaphore counts units, every other cell a block's credit. -/
def amt (s : SemLoc sig) : ℕ := match s with | .reg _ => 1 | .dma _ => N
theorem amt_pos (s : SemLoc sig) : 0 < amt s := by
  cases s with
  | reg _ => exact Nat.one_pos
  | dma _ => exact N_pos

/-- The rounds: one round each; a barrier cell has seven duties of one unit, every other cell one duty of a block's credit. -/
def rd : Rounds.Schedule (GSem nD τ sig) (Fin 7) 𝕄 where
  duties g r := if r = 0 then (match g.2 with | .reg _ => Finset.univ | .dma _ => {0}) else ∅
  unitless _ := False
  amount g _ _ := amt g.2
  payload g _ d := match g.2 with
    | .reg _ => barPay g.1.1 d
    | .dma q => if h : 13 ≤ q.val then recvPay m ρ g.1.1 ⟨q.val - 13, by have : q.val < 20 := q.isLt; omega⟩
        else if h' : 5 ≤ q.val ∧ q.val < 12 then sendPay m ρ g.1.1 ⟨q.val - 5, by omega⟩ else iprop(emp)
  amount_pos g _ _ _ := amt_pos g.2

instance rd_payload_storable (g : GSem nD τ sig) (r : ℕ) (d : Fin 7) :
    BI.Storable (upEmb : UEmb _ 𝕄) ((rd (F := F) m ρ).payload g r d) := by
  dsimp only [rd]
  unfold barPay recvPay sendPay
  (repeat' split) <;> infer_instance

section Tables
variable (c : Dev nD) (e : Fin 7)

theorem duties_bar : (rd (F := F) m ρ).duties (barCell c) 0 = Finset.univ := rfl
theorem duties_send : (rd (F := F) m ρ).duties (sendCell c e) 0 = {0} := rfl
theorem duties_recv : (rd (F := F) m ρ).duties (recvCell c e) 0 = {0} := rfl
theorem duties_later (g : GSem nD τ sig) : ∀ r, 1 ≤ r → (rd (F := F) m ρ).duties g r = ∅ :=
  fun r hr => if_neg (by omega)

theorem payload_bar : (rd (F := F) m ρ).payload (barCell c) 0 e = barPay c e := rfl
theorem payload_send (d : Fin 7) : (rd (F := F) m ρ).payload (sendCell c e) 0 d = sendPay m ρ c e := by
  have := e.isLt
  dsimp only [rd]
  rw [dif_neg (by omega), dif_pos (by omega)]
  congr 1; apply Fin.ext; simp
theorem payload_recv (d : Fin 7) : (rd (F := F) m ρ).payload (recvCell c e) 0 d = recvPay m ρ c e := by
  dsimp only [rd]
  rw [dif_pos (by omega)]
  congr 1; apply Fin.ext; simp

theorem expect_bar : (rd (F := F) m ρ).expect (barCell c) 0 = 7 := rfl
theorem expect_send : (rd (F := F) m ρ).expect (sendCell c e) 0 = N := by
  unfold Schedule.expect Schedule.amountOf; rw [duties_send, Finset.sum_singleton]; rfl
theorem expect_recv : (rd (F := F) m ρ).expect (recvCell c e) 0 = N := by
  unfold Schedule.expect Schedule.amountOf; rw [duties_recv, Finset.sum_singleton]; rfl

theorem rest_bar : bigSep ((rd (F := F) m ρ).duties (barCell c) 0 \ ∅) (fun d => (rd (F := F) m ρ).payload (barCell c) 0 d)
    = bigSep Finset.univ fun e => barPay c e := by
  rw [Finset.sdiff_empty, duties_bar]; rfl
theorem rest_send : bigSep ((rd (F := F) m ρ).duties (sendCell c e) 0 \ ∅) (fun d => (rd (F := F) m ρ).payload (sendCell c e) 0 d) = sendPay m ρ c e := by
  rw [Finset.sdiff_empty, duties_send, bigSep_singleton, payload_send]
theorem rest_recv : bigSep ((rd (F := F) m ρ).duties (recvCell c e) 0 \ ∅) (fun d => (rd (F := F) m ρ).payload (recvCell c e) 0 d) = recvPay m ρ c e := by
  rw [Finset.sdiff_empty, duties_recv, bigSep_singleton, payload_recv]

end Tables

/-! ## What a device owes, and the levels -/

/-- The transfers not yet started: those numbered `n` and on. -/
def todo (n : ℕ) : Finset (Fin 7) := Finset.univ.filter fun e => n ≤ e.val

theorem todo_zero : todo 0 = Finset.univ := by decide
theorem todo_seven : todo 7 = ∅ := by decide
theorem todo_at (e : Fin 7) : todo e.val = insert e (todo (e.val + 1)) := by revert e; decide
theorem not_mem_todo (e : Fin 7) : e ∉ todo (e.val + 1) := by revert e; decide

/-- Owed to the receive cells from transfer `n` on; to the barrier cells from signal `n` on. -/
def OR (c : Dev nD) (n : ℕ) : CellTallies nD τ sig Unit := ∑ e ∈ todo n, tallyAt (recvCell (after c e) e) () N
def OB (c : Dev nD) (n : ℕ) : CellTallies nD τ sig Unit := OR c 0 + ∑ e ∈ todo n, tallyAt (barCell (after c e)) () 1
abbrev O₀ (c : Dev nD) : CellTallies nD τ sig Unit := OB c 0

theorem OR_at (c : Dev nD) (e : Fin 7) : OR c e.val = OR c (e.val + 1) + tallyAt (recvCell (after c e) e) () N := by
  unfold OR; rw [todo_at, Finset.sum_insert (not_mem_todo e), add_comm]
theorem OR_end (c : Dev nD) : OR c 7 = 0 := by unfold OR; rw [todo_seven, Finset.sum_empty]
theorem OB_at (c : Dev nD) (e : Fin 7) : OB c e.val = OB c (e.val + 1) + tallyAt (barCell (after c e)) () 1 := by
  unfold OB; rw [todo_at, Finset.sum_insert (not_mem_todo e), add_assoc]; congr 1; exact add_comm _ _
theorem OB_end (c : Dev nD) : OB c 7 = OR c 0 := by unfold OB; rw [todo_seven, Finset.sum_empty, add_zero]

def L (g : GSem nD τ sig) : Finset Unit := if g.1.2 = .tc then {()} else ∅
/-- Barrier cells at 1, receive cells at 2, every other cell at 0. -/
def lv (g : GSem nD τ sig) (_ : Unit) : ℕ := match g.2 with | .reg _ => 1 | .dma q => if 13 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {k : ℕ} {u : Unit} (h : 0 < (tallyAt g' () k : CellTallies nD τ sig Unit) g u) : g = g' := by
  rw [tallyAt_apply] at h
  by_contra hn
  rw [if_neg (fun h' => hn h'.1)] at h
  exact Nat.lt_irrefl 0 h

theorem sum_pos {S : Finset (Fin 7)} {f : Fin 7 → CellTallies nD τ sig Unit} {g : GSem nD τ sig} {u : Unit}
    (h : 0 < (∑ e ∈ S, f e) g u) : ∃ e, 0 < f e g u := by
  rw [Finset.sum_apply, Finsupp.finset_sum_apply] at h
  obtain ⟨e, -, he⟩ := Finset.exists_ne_zero_of_sum_ne_zero h.ne'
  exact ⟨e, Nat.pos_of_ne_zero he⟩

theorem OR_pos {c : Dev nD} {n : ℕ} {g : GSem nD τ sig} {u : Unit} (h : 0 < OR c n g u) : ∃ e, g = recvCell (after c e) e := by
  obtain ⟨e, he⟩ := sum_pos h
  exact ⟨e, tally_pos he⟩
theorem OB_pos {c : Dev nD} {n : ℕ} {g : GSem nD τ sig} {u : Unit} (h : 0 < OB c n g u) :
    (∃ e, g = recvCell (after c e) e) ∨ ∃ e, g = barCell (after c e) := by
  unfold OB at h
  rw [Pi.add_apply, Finsupp.add_apply] at h
  rcases Nat.lt_or_ge 0 (OR c 0 g u) with h1 | h1
  · exact .inl (OR_pos h1)
  · obtain ⟨e, he⟩ := sum_pos (show 0 < (∑ e ∈ todo n, tallyAt (barCell (after c e)) () 1 : CellTallies nD τ sig Unit) g u by omega)
    exact .inr ⟨e, tally_pos he⟩

theorem lv_recv (c : Dev nD) (e : Fin 7) (u) : lv (recvCell c e) u = 2 := by dsimp only [lv]; exact if_pos (by omega)
theorem lv_bar (c : Dev nD) (u) : lv (barCell c) u = 1 := rfl

/-- A device may wait on a cell of level 0 whatever it owes at launch, -/
theorem mayWait_stage (c : Dev nD) (q : DmaSem sig) (hq : q.val < 13) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨e, rfl⟩ | ⟨e, rfl⟩ <;> exact Finset.mem_singleton_self _)
      (fun p hp => by rw [Finset.mem_singleton.mp hp]; dsimp only [lv]; rw [if_neg (by omega)])
      (fun g u hg => by
        rcases OB_pos hg with ⟨e, rfl⟩ | ⟨e, rfl⟩
        · rw [lv_recv]; decide
        · rw [lv_bar]; decide)
  · rw [MayWait_zero]; iintro -; iempintro

/-- and on its barrier cell while it owes its transfers only. -/
theorem mayWait_bar (c : Dev nD) : (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨e, rfl⟩ := OR_pos hg; exact Finset.mem_singleton_self _)
    (fun p hp => by rw [Finset.mem_singleton.mp hp]; exact le_refl _)
    (fun g u hg => by obtain ⟨e, rfl⟩ := OR_pos hg; rw [lv_recv]; decide)

end Cert.Exchange

end
-- ==== Proof.Access.lean ====
/-
# What each access reads and writes, stated once for every slot
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Rectangles -/

abbrev rX (off : Fin 2 → ℕ) (inb : ∀ a, off a + S512x512.size a ≤ S4096x512.size a) : Rect S4096x512 := Rect.unit (s := S4096x512) off S512x512.size inb
abbrev rB (off : Fin 3 → ℕ) (inb : ∀ a, off a + S1x512x512.size a ≤ S8x512x512.size a) : Rect S8x512x512 := Rect.unit (s := S8x512x512) off S1x512x512.size inb
abbrev rT (off : Fin 3 → ℕ) (inb : ∀ a, off a + S1x512x2048.size a ≤ S2x512x2048.size a) : Rect S2x512x2048 := Rect.unit (s := S2x512x2048) off S1x512x2048.size inb
abbrev rO : Rect S512x2048 := Rect.unit (s := S512x2048) ![0, 0] S512x2048.size inb_S512x2048_S512x2048_0_0

/-- The rows of the right operand a weight copy reads. -/
abbrev wrows (off : Fin 2 → ℕ) (inb : ∀ a, off a + S512x2048.size a ≤ S4096x2048.size a) : Memref sig .tc .hbm S512x2048 .f32 :=
  wM.slice (Rect.unit (s := S4096x2048) off S512x2048.size inb) (fun _ => rfl)

theorem inSlot'_mem {n A B : ℕ} (k : Fin n) (j) : inSlot' (A := A) (B := B) k j ∈ slot (n := n) (A := A) (B := B) k.val := mem_slot.mpr rfl
theorem inBlock'_inSlot' {n A B : ℕ} (k : Fin n) (j : (⟨3, ![1, A, B]⟩ : Shape).Idx) : inBlock' (inSlot' k j) = j := by
  have h0 := (j 0).isLt
  funext a; fin_cases a
  · apply Fin.ext; simp [inBlock'] at *; exact h0.symm
  · rfl
  · rfl
theorem inBlock_inSlot {n A B : ℕ} (k : Fin n) (j : (⟨2, ![A, B]⟩ : Shape).Idx) : inBlock (inSlot k j) = j := by
  funext a; fin_cases a <;> rfl
theorem inSlot_mem {n A B : ℕ} (k : Fin n) (j) : inSlot (A := A) (B := B) k j ∈ slot (n := n) (A := A) (B := B) k.val := mem_slot.mpr rfl

/-! ## Reads -/

/-- Rows `512 r, …` of the left operand's columns. -/
theorem read_x (c : Dev nD) (r : Fin 8) {off inb} (h : off = ![512 * r.val, 0]) :
    (xM.view.readAt (Elt F) (rX off inb).toLoadRect (xstg m ρ c) : S512x512.Idx → Elt F .f32) = xrow m ρ c r := by
  subst h
  funext j
  show xstg m ρ c ((rX _ inb).emb j) = xstg m ρ c (xIdx r j)
  congr 1
  funext a; apply Fin.ext; rw [Rect.emb_apply]
  fin_cases a <;> simp [xIdx]

/-- A slot of the send, receive and weight buffers. -/
theorem read_s (f : (cc0_scratch0 : Ref sig .tc).ty.Contents (Elt F)) (k : Fin 8) {off inb} (h : off = ![k.val, 0, 0]) :
    (sM.view.readAt (Elt F) (rB off inb).toLoadRect f : S1x512x512.Idx → Elt F .bf16) = fun j => f (inSlot' k j) :=
  funext fun j => congrArg f (unit_emb' (inb := inb) k h j)
theorem read_g (f : (cc0_scratch1 : Ref sig .tc).ty.Contents (Elt F)) (k : Fin 8) {off inb} (h : off = ![k.val, 0, 0]) :
    (gM.view.readAt (Elt F) (rB off inb).toLoadRect f : S1x512x512.Idx → Elt F .bf16) = fun j => f (inSlot' k j) :=
  funext fun j => congrArg f (unit_emb' (inb := inb) k h j)
theorem read_t (f : (cc0_scratch2 : Ref sig .tc).ty.Contents (Elt F)) (k : Fin 2) {off inb} (h : off = ![k.val, 0, 0]) :
    (tM.view.readAt (Elt F) (rT off inb).toLoadRect f : S1x512x2048.Idx → Elt F .f32) = fun j => f (inSlot' k j) :=
  funext fun j => congrArg f (unit_emb' (inb := inb) k h j)

theorem hz2 : (![0, 0] : Fin 2 → Nat) = fun _ => 0 := funext fun a => by fin_cases a <;> rfl
theorem read_o (f : (cc0_stg1_0 : Ref sig .tc).ty.Contents (Elt F)) : oM.view.readAt (Elt F) rO.toLoadRect f = f :=
  Memref.readAt_unit_zero (Elt F) cc0_stg1_0 hz2 _ f
theorem write_o (f w : (cc0_stg1_0 : Ref sig .tc).ty.Contents (Elt F)) : (oM.access rO : View sig .tc _ _ _).write (Elt F) f w Finset.univ = w :=
  Memref.write_access_unit_zero_univ (Elt F) cc0_stg1_0 hz2 _ f w

/-- The elements of a slot are those an access at its offset reads. -/
theorem on_s {k : ℕ} {off inb} (h : off = ![k, 0, 0]) : sM.view.setOn (rB off inb).toLoadRect.set ⊆ slot (n := 8) (A := 512) (B := 512) k :=
  (View.set_slice (v := sM.view) (r := rB off inb)).symm.subset.trans ((View.set_slice_whole cc0_scratch0 _).trans (unit_set h)).subset
theorem on_g {k : ℕ} {off inb} (h : off = ![k, 0, 0]) : gM.view.setOn (rB off inb).toLoadRect.set ⊆ slot (n := 8) (A := 512) (B := 512) k :=
  (View.set_slice (v := gM.view) (r := rB off inb)).symm.subset.trans ((View.set_slice_whole cc0_scratch1 _).trans (unit_set h)).subset
theorem on_t {k : ℕ} {off inb} (h : off = ![k, 0, 0]) : tM.view.setOn (rT off inb).toLoadRect.set ⊆ slot (n := 2) (A := 512) (B := 2048) k :=
  (View.set_slice (v := tM.view) (r := rT off inb)).symm.subset.trans ((View.set_slice_whole cc0_scratch2 _).trans (unit_set h)).subset

/-! ## What the exchange's buffers hold, read by slot -/

theorem XS_inSlot' (c : Dev nD) (k : Fin 8) (j) : XS m ρ c (inSlot' k j) = k0_pay1 (xrow m ρ c k) j := by
  unfold XS; rw [inBlock'_inSlot']; rfl
theorem XG_inSlot' (c : Dev nD) (k : Fin 8) : (fun j => XG m ρ c (inSlot' k j)) = xblk m ρ c k.val := by
  funext j
  unfold XG xblk
  congr 1
theorem XT_inSlot' (c : Dev nD) (d : ℕ) (k : Fin 2) : (fun j => XT m c d (inSlot' k j)) = wblk m c d := by
  funext j
  unfold XT; rw [inBlock'_inSlot']
theorem back_zero (c : Dev nD) : back c 0 = c := by revert c; decide
theorem XS_own (c : Dev nD) : (fun j => XS m ρ c (inSlot' (n := 8) c j)) = xblk m ρ c 0 := by
  unfold xblk; rw [back_zero]

/-! ## Writes -/

/-- Storing the rounded rows of device `r` fills slot `r` of the send buffer and leaves the others. -/
theorem write_s (c : Dev nD) (r : Fin 8) {off inb} (h : off = ![r.val, 0, 0]) (f : (cc0_scratch0 : Ref sig .tc).ty.Contents (Elt F))
    (hf : ∀ i : S8x512x512.Idx, (i 0).val < r.val → f i = XS m ρ c i) (i : S8x512x512.Idx) (hi : (i 0).val < r.val + 1) :
    (sM.access (rB off inb) : View sig .tc _ _ _).write (Elt F) f (k0_pay1 (xrow m ρ c r)) Finset.univ i = XS m ρ c i := by
  by_cases hr : (i 0).val = r.val
  · have hi' : i = inSlot' r (inBlock' i) := (inSlot_inBlock' (mem_slot.mpr hr)).symm
    have he : (sM.access (rB off inb) : View sig .tc _ _ _).emb (inBlock' i) = i := (unit_emb' (inb := inb) r h _).trans hi'.symm
    calc _ = (sM.access (rB off inb) : View sig .tc _ _ _).write (Elt F) f (k0_pay1 (xrow m ρ c r)) Finset.univ
              ((sM.access (rB off inb) : View sig .tc _ _ _).emb (inBlock' i)) := by rw [he]
      _ = k0_pay1 (xrow m ρ c r) (inBlock' i) := View.write_emb_of_mem _ _ (Finset.mem_univ _)
      _ = XS m ρ c i := by
        unfold XS
        rw [show (i 0 : Fin 8) = r from Fin.ext hr]
  · have hn : i ∉ (sM.access (rB off inb) : View sig .tc _ _ _).setOn Finset.univ := fun hm =>
      hr (mem_slot.mp (((View.set_slice_whole cc0_scratch0 _).trans (unit_set h)).subset hm))
    exact (View.write_of_not_mem _ _ _ hn).trans (hf i (by omega))

/-- What transfer `e` of device `c` writes into slot `e + 1` of the device `e + 1` places after it. -/
theorem landed (c : Dev nD) (e : Fin 7) {off inb off' inb'} (h : off = ![(after c e).val, 0, 0]) (h' : off' = ![e.val + 1, 0, 0])
    (f : (cc0_scratch1 : Ref sig .tc).ty.Contents (Elt F)) (i : S8x512x512.Idx) (hi : i ∈ slot (n := 8) (A := 512) (B := 512) (e.val + 1)) :
    (cut gM off' inb').view.write (Elt F) f ((cut sM off inb).view.read (Elt F) (XS m ρ c)) Finset.univ i = XG m ρ (after c e) i := by
  have hi0 : (i 0).val = e.val + 1 := mem_slot.mp hi
  have he : (cut gM off' inb').view.emb (inBlock i) = i :=
    (emb_cut_g e.succ h' _).trans (inSlot_inBlock (k := e.succ) hi)
  calc _ = (cut gM off' inb').view.write (Elt F) f ((cut sM off inb).view.read (Elt F) (XS m ρ c)) Finset.univ ((cut gM off' inb').view.emb (inBlock i)) := by rw [he]
    _ = (cut sM off inb).view.read (Elt F) (XS m ρ c) (inBlock i) := View.write_emb_of_mem _ _ (Finset.mem_univ _)
    _ = XS m ρ c ((cut sM off inb).view.emb (inBlock i)) := rfl
    _ = XS m ρ c (inSlot (n := 8) (after c e) (inBlock i)) := by rw [emb_cut_s (after c e) h]
    _ = XG m ρ (after c e) i := by unfold XG; rw [hi0, back_after]

/-- What a weight copy of step `d` writes into its slot. -/
theorem copied (c : Dev nD) (d : Fin 8) (k : Fin 2) {off inb off' inb'} (h : off = ![512 * (back c d.val).val, 0]) (h' : off' = ![k.val, 0, 0])
    (f : (cc0_scratch2 : Ref sig .tc).ty.Contents (Elt F)) (i : S2x512x2048.Idx) (hi : i ∈ slot (n := 2) (A := 512) (B := 2048) k.val) :
    (wcut off' inb').view.write (Elt F) f ((wrows off inb).view.read (Elt F) (wAt m c)) Finset.univ i = XT m c d.val i := by
  have he : (wcut off' inb').view.emb (inBlock i) = i := (emb_wcut k h' _).trans (inSlot_inBlock (k := k) hi)
  calc _ = (wcut off' inb').view.write (Elt F) f ((wrows off inb).view.read (Elt F) (wAt m c)) Finset.univ ((wcut off' inb').view.emb (inBlock i)) := by rw [he]
    _ = (wrows off inb).view.read (Elt F) (wAt m c) (inBlock i) := View.write_emb_of_mem _ _ (Finset.mem_univ _)
    _ = wAt m c ((Rect.unit (s := S4096x2048) off S512x2048.size inb).emb (inBlock i)) := rfl
    _ = XT m c d.val i := by
      subst h
      unfold XT wblk
      congr 1
      funext a; apply Fin.ext; rw [Rect.emb_apply]
      fin_cases a <;> simp [wIdx, inBlock, inBlock']

/-- The offsets of the kernel's slices. -/
theorem off1_after (c : Dev nD) (e : Fin 7) : k0_off1 c (BitVec.ofNat 32 (1 + e.val)) = ![(after c e).val, 0, 0] := by
  rw [k0_off1_eq]; unfold after; congr 2
theorem off2_back (c : Dev nD) (d : Fin 8) : k0_off2 c (BitVec.ofNat 32 d.val) = ![512 * (back c d.val).val, 0] := by
  rw [k0_off2_eq]; rfl

end Cert.Exchange

end
-- ==== Proof.Steps.lean ====
/-
# One rule for each kind of step, for every transfer and every block at once

The state before and after a step is a separating product over the transfers
still to come (`todo n`) and those already past (`past n`), so that the rules
below are stated for transfer number `n` in general.
-/
module

public import proofs.«01_k».proof.Proof.Access

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## What every step may use -/

/-- The exchange's cells of one device: its barrier cell, its send cells, its receive cells. -/
abbrev CK : Type := Unit ⊕ (Fin 7 ⊕ Fin 7)
abbrev Kc : Type := Dev nD × CK → ℕ
def kcell : Dev nD × CK → GSem nD τ sig
  | (c, .inl _) => barCell c
  | (c, .inr (.inl e)) => sendCell c e
  | (c, .inr (.inr e)) => recvCell c e

/-- The invariants of all cells, that each is at its round, and the levels. -/
def ctx (K : Kc) : sProp 𝕄 :=
  iprop(((bigSep Finset.univ fun ck : Dev nD × CK => cellInv ER (rd m ρ) (K ck) (kcell ck))
    ∗ bigSep Finset.univ fun ck : Dev nD × CK => reached ER (kcell ck) 0) ∗ levAts L lv)

instance ctx_persistent (K : Kc) : BI.Persistent (ctx (F := F) m ρ K) := by unfold ctx; infer_instance

theorem ctx_inv (K : Kc) (ck : Dev nD × CK) : ctx (F := F) m ρ K ⊢ cellInv ER (rd m ρ) (K ck) (kcell ck) := by
  have h : (bigSep Finset.univ fun ck : Dev nD × CK => (cellInv ER (rd m ρ) (K ck) (kcell ck) : sProp 𝕄)) ⊢ cellInv ER (rd m ρ) (K ck) (kcell ck) :=
    bigSep_elim (Finset.mem_univ ck)
  unfold ctx
  iintro ⟨⟨H, -⟩, -⟩
  iapply h; iexact H
theorem ctx_reached (K : Kc) (ck : Dev nD × CK) : ctx (F := F) m ρ K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold ctx
  iintro ⟨⟨-, H⟩, -⟩
  iapply h; iexact H
theorem ctx_lev (K : Kc) : ctx (F := F) m ρ K ⊢ levAts L lv := by
  unfold ctx
  iintro ⟨-, H⟩
  iexact H

/-! ## Products over the transfers to come and past -/

/-- The transfers numbered below `n`. -/
def past (n : ℕ) : Finset (Fin 7) := Finset.univ.filter fun e => e.val < n

theorem past_zero : past 0 = ∅ := by decide
theorem past_seven : past 7 = Finset.univ := by decide
theorem past_at (e : Fin 7) : past (e.val + 1) = insert e (past e.val) := by revert e; decide
theorem not_mem_past (e : Fin 7) : e ∉ past e.val := by revert e; decide

theorem todo_take (e : Fin 7) {n : ℕ} (hn : n = e.val) (Φ : Fin 7 → sProp 𝕄) : bigSep (todo n) Φ = iprop(Φ e ∗ bigSep (todo (n + 1)) Φ) := by
  subst hn; rw [todo_at, BI.bigSep_insert (not_mem_todo e)]; rfl
theorem past_put (e : Fin 7) {n : ℕ} (hn : n = e.val) (Φ : Fin 7 → sProp 𝕄) : bigSep (past (n + 1)) Φ = iprop(Φ e ∗ bigSep (past n) Φ) := by
  subst hn; rw [past_at, BI.bigSep_insert (not_mem_past e)]; rfl

/-- What a device owes, whatever it has waited on so far. -/
def ow (c : Dev nD) (O : CellTallies nD τ sig Unit) : sProp 𝕄 := iprop(∃ W, owes (c : Thread nD τ) O W)

section
variable (K : Kc) (c : Dev nD)

/-! ## The barrier -/

/-- Before signal `n`: the tokens of the signals to come, with the slots they hand over. -/
def SigSt (c : Dev nD) (n : ℕ) : sProp 𝕄 :=
  iprop(ow c (OB c n) ∗ bigSep (todo n) fun e => iprop(dutyTok ER (barCell (after c e)) 0 e.rev ∗ ∃ f, gPts c (e.rev.val + 1) f))

theorem wp_signal_step {α : Type} {Q : α → sProp 𝕄} {k : PUnit → Prog (TpuEff nD τ sig (Elt F) Λ₀ .tc) α}
    (e : Fin 7) (n n' : ℕ) {a : Dev nD} (ha : a = after c e) (hn : n = e.val := by rfl) (hn' : n' = n + 1 := by rfl) :
    iprop(ctx m ρ K ∗ SigSt c n)
      ⊢ iprop((SigSt c n' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (a : Thread nD τ) barS (1#32 : BitVec 32).toInt) k) Q) := by
  subst ha hn' hn
  unfold SigSt ow
  rw [todo_take e rfl]
  iintro ⟨#Hc, ⟨%W, HO⟩, ⟨Ht, Hg⟩, Hr⟩ Hk
  iapply (Rounds.wp_signal 𝒱₀ ER (rd m ρ) (c : Thread nD τ) none (dst := (after c e : Thread nD τ)) (κ := K (after c e, .inl ()))
      (d := e.rev) (by rw [duties_bar]; exact Finset.mem_univ _) (show 1 = _ from by decide) () (OB c (e.val + 1)) (OB_at c e)) $$ [HO Ht Hg]
  · isplitr; · iapply (ctx_inv m ρ K (after c e, .inl ())); iexact Hc
    isplitl [HO]; · iexact HO
    isplitl [Ht]; · iexact Ht
    isplitl [Hg]
    · rw [payload_bar]; unfold barPay; rw [after_after_rev]; iexact Hg
    · iapply (ctx_reached m ρ K (after c e, .inl ())); iexact Hc
  iintro HO
  iapply Hk
  isplitl [HO]
  · iexists W; iexact HO
  iexact Hr

/-- The wait for all seven peers: each peer's unit brought the slot that `c` writes into. -/
theorem wp_barrier_step {α : Type} {Q : α → sProp 𝕄} {k : PUnit → Prog (TpuEff nD τ sig (Elt F) Λ₀ .tc) α}
    :
    iprop(ctx m ρ K ∗ SigSt c 7 ∗ cred (tallyAt (barCell c) () 7) ∗ atPos ER (barCell c) 0 ∅ 0)
      ⊢ iprop(((ow c (OR c 0) ∗ (bigSep Finset.univ fun e => barPay c e) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32 : BitVec 32).toInt) k) Q) := by
  unfold SigSt ow
  rw [OB_end]
  iintro ⟨#Hc, ⟨⟨%W, HO⟩, -⟩, Hcr, Hat⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := OR c 0) (W := W) (R := 0) (m := 0) (T := ∅)
      (by rw [expect_bar]; decide)) $$ [Hcr HO Hat]
  · isplitr; · iapply (ctx_inv m ρ K (c, .inl ())); iexact Hc
    isplitl [Hcr]; · iexact Hcr
    isplitl [HO]; · iexact HO
    isplitr; · iapply (mayWait_bar c); iapply (ctx_lev m ρ K); iexact Hc
    iexact Hat
  iintro ⟨HO, Hat, -, Hpay⟩
  ihave Hp := (Entails.of_eq (rest_bar m ρ c)) $$ Hpay
  imod (Rounds.cell_close ER (rd m ρ) (Set.mem_univ (K (c, .inl ()))) (fun h => h) (R := 0 + 1) (duties_later m ρ (barCell c))) $$ [Hat] with Hz
  · isplitr; · iapply (ctx_inv m ρ K (c, .inl ())); iexact Hc
    iexact Hat
  iapply Hk
  isplitl [HO]
  · iexists _; iexact HO
  isplitl [Hp] <;> iassumption

/-! ## The transfers -/

/-- Before transfer `n`: for each to come its tokens, the slot it writes and the slot it sends; for each past its credit. -/
def SndSt (c : Dev nD) (n : ℕ) : sProp 𝕄 :=
  iprop(ow c (OR c n)
    ∗ (bigSep (todo n) fun e => iprop((dutyTok ER (sendCell c e) 0 0 ∗ dutyTok ER (recvCell (after c e) e) 0 0) ∗ barPay c e ∗ sendPay m ρ c e))
    ∗ bigSep (past n) fun e => cred (tallyAt (sendCell c e) () N))

theorem wp_send_step {α : Type} {Q : α → sProp 𝕄} {k : PUnit → Prog (TpuEff nD τ sig (Elt F) Λ₀ .tc) α}
    (e : Fin 7) (n n' : ℕ) {a : Dev nD} (ha : a = after c e)
    {off inb off' inb'} (h : off = ![(after c e).val, 0, 0]) (h' : off' = ![e.val + 1, 0, 0])
    {qs qr : DmaSem sig} (hs : qs = sS e) (hr : qr = rS e)
    {hsc : (cut gM off' inb').view.ref.isScScratch = false} {hsrc : (cut sM off inb).view.WordExact} {hdst : (cut gM off' inb').view.WordExact}
    {hsem : DmaTarget.Typed .vmem (.dma qr) (.remote (Dev.tc a : Thread nD τ) (cut gM off' inb') (.dma qs) hsc)}
    (hn : n = e.val := by rfl) (hn' : n' = n + 1 := by rfl) :
    iprop(ctx m ρ K ∗ SndSt m ρ c n)
      ⊢ iprop((SndSt m ρ c n' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cut sM off inb) (.remote (Dev.tc a : Thread nD τ) (cut gM off' inb') (.dma qs) hsc) (.dma qr) hsrc hdst hsem) k) Q) := by
  subst ha hs hr hn' hn
  unfold SndSt ow
  rw [todo_take e rfl, past_put e rfl]
  unfold barPay
  iintro ⟨#Hc, ⟨%W, HO⟩, ⟨⟨⟨Hts, Htr⟩, ⟨%f, Hg⟩, Hs⟩, Hr⟩, Hcr⟩ Hk
  iapply (Rounds.wp_send_pointsTo 𝒱₀ ER (rd m ρ) (c : Thread nD τ) none (κ₁ := K (c, .inr (.inl e))) (κ₂ := K (after c e, .inr (.inr e)))
      (c' := (after c e : Thread nD τ)) (src := cut sM off inb) (dst := cut gM off' inb')
      (r₁ := 0) (r₂ := 0) (d₁ := 0) (d₂ := 0) (q := fullShare) (fs := XS m ρ c) (fd := f)
      (by rw [duties_send]; exact Finset.mem_singleton_self _) (by rw [duties_recv]; exact Finset.mem_singleton_self _)
      () () N rfl rfl rfl (OR c (e.val + 1)) (OR_at c e) (W := W)
      (by rw [payload_send]; unfold sendPay sPts; rw [set_cut_s h])
      (by
        rw [payload_recv]; unfold recvPay gPts; rw [set_cut_g h']
        exact Entails.of_eq (pointsTo_congr fun i hi => landed m ρ c e h h' f i hi))) $$ [HO Hts Htr Hg Hs]
  · isplitr; · iapply (ctx_inv m ρ K (c, .inr (.inl e))); iexact Hc
    isplitr; · iapply (ctx_inv m ρ K (after c e, .inr (.inr e))); iexact Hc
    isplitl [Hs]; · unfold sendPay sPts; rw [set_cut_s h]; iexact Hs
    isplitl [Hg]; · unfold gPts; rw [set_cut_g h']; iexact Hg
    isplitl [HO]; · iexact HO
    isplitl [Hts]; · iexact Hts
    isplitr; · iapply (ctx_reached m ρ K (c, .inr (.inl e))); iexact Hc
    isplitl [Htr]; · iexact Htr
    iapply (ctx_reached m ρ K (after c e, .inr (.inr e))); iexact Hc
  iintro ⟨Hcs, HO⟩
  iapply Hk
  isplitl [HO]
  · iexists W; iexact HO
  isplitl [Hr]; · iexact Hr
  isplitl [Hcs] <;> iassumption

/-- Before receive `n`: the credits of those to come; the slots of those past, filled. -/
def RcvSt (c : Dev nD) (n : ℕ) : sProp 𝕄 :=
  iprop((bigSep (todo n) fun e => iprop(cred (tallyAt (recvCell c e) () N) ∗ atPos ER (recvCell c e) 0 ∅ 0))
    ∗ bigSep (past n) fun e => iprop(recvPay m ρ c e ∗ semVal (recvCell c e) 0))

theorem wp_recv_step {α : Type} {Q : α → sProp 𝕄} {k : PUnit → Prog (TpuEff nD τ sig (Elt F) Λ₀ .tc) α}
    (e : Fin 7) (n n' : ℕ) {off inb off' inb'} {q : DmaSem sig} (hq : q = rS e)
    {hsrc : (cut sM off inb).view.WordExact} {hdst : (cut gM off' inb').view.WordExact}
    (hn : n = e.val := by rfl) (hn' : n' = n + 1 := by rfl) :
    iprop(ctx m ρ K ∗ ow c 0 ∗ RcvSt m ρ c n)
      ⊢ iprop(((ow c 0 ∗ RcvSt m ρ c n') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (cut sM off inb) (cut gM off' inb') hsrc hdst) k) Q) := by
  subst hq hn' hn
  unfold RcvSt ow
  rw [todo_take e rfl, past_put e rfl]
  iintro ⟨#Hc, ⟨%W, HO⟩, ⟨⟨Hcr, Hat⟩, Hr⟩, Hp⟩ Hk
  iapply (Rounds.wp_wait_rest_token 𝒱₀ ER (rd m ρ) (c : Thread nD τ) none (κ := K (c, .inr (.inr e)))
      (wpE_waitDma2_eq 𝒱₀ (c : Thread nD τ) none Set.univ) (Set.mem_univ _) () (O := 0) (W := W) (R := 0) (m := 0) (T := ∅)
      (by rw [Nat.zero_add, expect_recv]; rfl)) $$ [Hcr HO Hat]
  · isplitr; · iapply (ctx_inv m ρ K (c, .inr (.inr e))); iexact Hc
    isplitl [Hcr]; · iexact Hcr
    isplitl [HO]; · iexact HO
    isplitr; · rw [MayWait_zero]; iempintro
    iexact Hat
  iintro ⟨HO, Hat, -, Hpay⟩
  ihave Hg := (Entails.of_eq (rest_recv m ρ c e)) $$ Hpay
  imod (Rounds.cell_close ER (rd m ρ) (Set.mem_univ (K (c, .inr (.inr e)))) (fun h => h) (R := 0 + 1) (duties_later m ρ (recvCell c e))) $$ [Hat] with Hz
  · isplitr; · iapply (ctx_inv m ρ K (c, .inr (.inr e))); iexact Hc
    iexact Hat
  iapply Hk
  isplitl [HO]
  · iexists _; iexact HO
  isplitl [Hr]; · iexact Hr
  isplitl [Hg Hz]
  · isplitl [Hg] <;> iassumption
  iexact Hp

/-- Before the wait for transfer `n` to have left: the credits of those to come; the slots of those past. -/
def SdwSt (c : Dev nD) (n : ℕ) : sProp 𝕄 :=
  iprop((bigSep (todo n) fun e => iprop(cred (tallyAt (sendCell c e) () N) ∗ atPos ER (sendCell c e) 0 ∅ 0))
    ∗ bigSep (past n) fun e => iprop(sendPay m ρ c e ∗ semVal (sendCell c e) 0))

theorem wp_sent_step {α : Type} {Q : α → sProp 𝕄} {k : PUnit → Prog (TpuEff nD τ sig (Elt F) Λ₀ .tc) α}
    (e : Fin 7) (n n' : ℕ) {off inb off' inb'} {q : DmaSem sig} (hq : q = sS e)
    {hsrc : (cut gM off' inb').view.WordExact} {hdst : (cut sM off inb).view.WordExact}
    (hn : n = e.val := by rfl) (hn' : n' = n + 1 := by rfl) :
    iprop(ctx m ρ K ∗ ow c 0 ∗ SdwSt m ρ c n)
      ⊢ iprop(((ow c 0 ∗ SdwSt m ρ c n') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (cut gM off' inb') (cut sM off inb) hsrc hdst) k) Q) := by
  subst hq hn' hn
  unfold SdwSt ow
  rw [todo_take e rfl, past_put e rfl]
  iintro ⟨#Hc, ⟨%W, HO⟩, ⟨⟨Hcr, Hat⟩, Hr⟩, Hp⟩ Hk
  iapply (Rounds.wp_wait_rest_token 𝒱₀ ER (rd m ρ) (c : Thread nD τ) none (κ := K (c, .inr (.inl e)))
      (wpE_waitDma2_eq 𝒱₀ (c : Thread nD τ) none Set.univ) (Set.mem_univ _) () (O := 0) (W := W) (R := 0) (m := 0) (T := ∅)
      (by rw [Nat.zero_add, expect_send]; rfl)) $$ [Hcr HO Hat]
  · isplitr; · iapply (ctx_inv m ρ K (c, .inr (.inl e))); iexact Hc
    isplitl [Hcr]; · iexact Hcr
    isplitl [HO]; · iexact HO
    isplitr; · rw [MayWait_zero]; iempintro
    iexact Hat
  iintro ⟨HO, Hat, -, Hpay⟩
  ihave Hg := (Entails.of_eq (rest_send m ρ c e)) $$ Hpay
  imod (Rounds.cell_close ER (rd m ρ) (Set.mem_univ (K (c, .inr (.inl e)))) (fun h => h) (R := 0 + 1) (duties_later m ρ (sendCell c e))) $$ [Hat] with Hz
  · isplitr; · iapply (ctx_inv m ρ K (c, .inr (.inl e))); iexact Hc
    iexact Hat
  iapply Hk
  isplitl [HO]
  · iexists _; iexact HO
  isplitl [Hr]; · iexact Hr
  isplitl [Hg Hz]
  · isplitl [Hg] <;> iassumption
  iexact Hp

/-! ## The weight copies -/

/-- The share of the right operand that slot `k`'s copies read with. -/
def wq (k : Fin 2) : PosShare TreeShare := if k = 0 then fullShare.left else fullShare.right

/-- Slot `k` with no copy under way, at some contents; -/
def WIdle (c : Dev nD) (k : Fin 2) : sProp 𝕄 :=
  iprop(semVal (wCell c k) 0 ∗ (((c : Thread nD τ).loc main_arg1) ↦{wq k} wAt m c) ∗ ∃ f, tPts c k.val f)
/-- filled for step `d`; -/
def WReady (c : Dev nD) (k : Fin 2) (d : ℕ) : sProp 𝕄 :=
  iprop(semVal (wCell c k) 0 ∗ (((c : Thread nD τ).loc main_arg1) ↦{wq k} wAt m c) ∗ tPts c k.val (XT m c d))
/-- with the copy for step `d` under way. -/
def wsrc (c : Dev nD) (d : Fin 8) : Memref sig .tc .hbm S512x2048 .f32 := wrows (k0_off2 c (BitVec.ofNat 32 d.val)) (k0_off2_inb c d)
theorem slot_inb (k : Fin 2) : ∀ a, (![k.val, 0, 0] : Fin 3 → ℕ) a + S1x512x2048.size a ≤ S2x512x2048.size a := by revert k; decide
def wdst (k : Fin 2) : Memref sig .tc .vmem S512x2048 .f32 := wcut ![k.val, 0, 0] (slot_inb k)
def NW : ℕ := (wdst 0).view.dmaCredit
theorem NW_pos : 0 < NW := View.dmaCredit_pos _ (by decide)
/-- The copied slot at arrival, and the rows read. -/
def wland (c : Dev nD) (k : Fin 2) (d : Fin 8) (f : Buf (Elt F) ((c : Thread nD τ).loc cc0_scratch2)) : sProp 𝕄 :=
  iprop((((c : Thread nD τ).loc cc0_scratch2) ↦[slot (n := 2) (A := 512) (B := 2048) k.val]{fullShare}
        ((wdst k).view.write (Elt F) f ((wsrc c d).view.read (Elt F) (wAt m c)) Finset.univ))
    ∗ (((c : Thread nD τ).loc main_arg1) ↦[(wsrc c d).view.set]{wq k} wAt m c))
def WFly (c : Dev nD) (k : Fin 2) (d : Fin 8) : sProp 𝕄 :=
  iprop((∃ f, Flight countersEmb (c : Thread nD τ) (.dma (wS k)) () NW (wland m c k d f))
    ∗ (((c : Thread nD τ).loc main_arg1) ↦[Finset.univ \ (wsrc c d).view.set]{wq k} wAt m c))

/-- A share of the right operand is the rows a copy reads and the others. -/
theorem w_split (s : Fin 2) (d : Fin 8) : ((((c : Thread nD τ).loc main_arg1) ↦{wq s} wAt m c) : sProp 𝕄)
    ⊣⊢ iprop((((c : Thread nD τ).loc main_arg1) ↦[(wsrc c d).view.set]{wq s} wAt m c)
      ∗ (((c : Thread nD τ).loc main_arg1) ↦[Finset.univ \ (wsrc c d).view.set]{wq s} wAt m c)) :=
  pointsTo_split_subset (Finset.subset_univ _)

theorem wland_ready (s : Fin 2) (d : Fin 8) (f : Buf (Elt F) ((c : Thread nD τ).loc cc0_scratch2)) :
    wland m c s d f ⊢ iprop(tPts c s.val (XT m c d.val) ∗ (((c : Thread nD τ).loc main_arg1) ↦[(wsrc c d).view.set]{wq s} wAt m c)) := by
  unfold wland tPts
  exact sep_mono_left (Entails.of_eq (pointsTo_congr fun i hi => copied m c d s (off2_back c d) rfl f i hi))

theorem wp_wstart_step {α : Type} {Q : α → sProp 𝕄} {k : PUnit → Prog (TpuEff nD τ sig (Elt F) Λ₀ .tc) α}
    (s : Fin 2) (d : Fin 8) {off inb off' inb'} (h : off = k0_off2 c (BitVec.ofNat 32 d.val)) (h' : off' = ![s.val, 0, 0])
    {q : DmaSem sig} (hq : q = wS s) {hsrc : (wrows off inb).view.WordExact} {hdst : (wcut off' inb').view.WordExact} {hsem} :
    WIdle m c s
      ⊢ iprop((WFly m c s d -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wrows off inb) (.here (wcut off' inb')) (.dma q) hsrc hdst hsem) k) Q) := by
  subst h h' hq
  unfold WIdle tPts
  iintro ⟨Hv, Hw, ⟨%f, Ht⟩⟩ Hk
  ihave Hw' := (w_split m c s d).1 $$ Hw
  icases Hw' with ⟨Hw, Hr⟩
  iapply (Transfers.wp_dmaLocal countersEmb 𝒱₀ (c : Thread nD τ) none (src := wsrc c d) (dst := wdst s) (q := wq s) (fs := wAt m c) (fd := f)
      (Sd := slot (n := 2) (A := 512) (B := 2048) s.val) () NW rfl NW_pos (set_wcut (off := ![s.val, 0, 0]) rfl).subset) $$ [Hv Hw Ht]
  · isplitl [Hw]; · iexact Hw
    isplitl [Ht]; · iexact Ht
    iexact Hv
  iintro Hf
  iapply Hk
  unfold WFly wland
  isplitl [Hf]
  · iexists f; iexact Hf
  iexact Hr

theorem wp_wwait_step {α : Type} {Q : α → sProp 𝕄} {k : PUnit → Prog (TpuEff nD τ sig (Elt F) Λ₀ .tc) α}
    (s : Fin 2) (d : Fin 8) (n : ℕ) {off inb off' inb'}
    {q : DmaSem sig} (hq : q = wS s) {hsrc : (wrows off inb).view.WordExact} {hdst : (wcut off' inb').view.WordExact}
    (hn : n = d.val := by rfl) :
    iprop(ow c 0 ∗ WFly m c s d)
      ⊢ iprop(((ow c 0 ∗ WReady m c s n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (wrows off inb) (wcut off' inb') hsrc hdst) k) Q) := by
  subst hq hn
  unfold WFly ow
  iintro ⟨⟨%W, HO⟩, ⟨%f, Hf⟩, Hr⟩ Hk
  iapply (Transfers.wp_waitLocal countersEmb 𝒱₀ (c : Thread nD τ) none (N := NW) (srcw := wrows off inb) (dstw := wcut off' inb') () rfl) $$ [HO Hf]
  · isplitl [Hf]; · iexact Hf
    iexact HO
  iintro ⟨Hl, Hv, HO⟩
  ihave Hl' := (wland_ready m c s d f) $$ Hl
  icases Hl' with ⟨Ht, Hw⟩
  ihave Hw' := (w_split m c s d).2 $$ [Hw Hr]
  · isplitl [Hw] <;> iassumption
  iapply Hk
  isplitl [HO]
  · iexists _; iexact HO
  unfold WReady
  isplitl [Hv]; · iexact Hv
  isplitl [Hw'] <;> iassumption

theorem WReady_idle (s : Fin 2) (d : ℕ) : WReady m c s d ⊢ WIdle m c s := by
  unfold WReady WIdle
  iintro ⟨Hv, Hw, Ht⟩
  isplitl [Hv]; · iexact Hv
  isplitl [Hw]; · iexact Hw
  iexists _; iexact Ht

theorem wp_load_w {α : Type} {Q : α → sProp 𝕄} (s : Fin 2) (d : ℕ) {off inb} (h : off = ![s.val, 0, 0])
    {hl : tM.view.LoadsAt (rT off inb).toLoadRect} {k : Vec F S1x512x2048 .f32 → Prog (TpuEff nD τ sig (Elt F) Λ₀ .tc) α} :
    WReady m c s d
      ⊢ iprop((WReady m c s d -∗ wp frame (wpE (defs₀ (F := F)) 𝒱₀ (c : Thread nD τ) none) Set.univ (k (wblk m c d)) Q)
          -∗ wp frame (wpE (defs₀ (F := F)) 𝒱₀ (c : Thread nD τ) none) Set.univ (.op (.load tM (rT off inb).toLoadRect hl) k) Q) := by
  unfold WReady tPts
  iintro ⟨Hv, Hw, Ht⟩ Hk
  iapply (wp_load 𝒱₀ (c : Thread nD τ) none Set.univ (m := tM) (on_t h)) $$ Ht
  iintro Ht
  rw [read_t _ s h, XT_inSlot']
  iapply Hk
  isplitl [Hv]; · iexact Hv
  isplitl [Hw] <;> iassumption

/-! ## The other accesses -/

/-- The staged columns of the left operand, and the staged result. -/
def xPts (c : Dev nD) : sProp 𝕄 := ((c : Thread nD τ).loc cc0_stg0_0) ↦{fullShare} xstg m ρ c
def oPts (c : Dev nD) (f : Vec F S512x2048 .f32) : sProp 𝕄 := ((c : Thread nD τ).loc cc0_stg1_0) ↦{fullShare} f
/-- The send buffer with its slots below `n` filled. -/
def Fill (c : Dev nD) (n : ℕ) : sProp 𝕄 :=
  iprop(∃ f : Buf (Elt F) ((c : Thread nD τ).loc cc0_scratch0), ⌜∀ i : S8x512x512.Idx, (i 0).val < n → f i = XS m ρ c i⌝
    ∗ (((c : Thread nD τ).loc cc0_scratch0) ↦{fullShare} f))

theorem wp_load_x {α : Type} {Q : α → sProp 𝕄} (r : Fin 8) {off inb} (h : off = ![512 * r.val, 0])
    {hl : xM.view.LoadsAt (rX off inb).toLoadRect} {k : Vec F S512x512 .f32 → Prog (TpuEff nD τ sig (Elt F) Λ₀ .tc) α} :
    xPts m ρ c
      ⊢ iprop((xPts m ρ c -∗ wp frame (wpE (defs₀ (F := F)) 𝒱₀ (c : Thread nD τ) none) Set.univ (k (xrow m ρ c r)) Q)
          -∗ wp frame (wpE (defs₀ (F := F)) 𝒱₀ (c : Thread nD τ) none) Set.univ (.op (.load xM (rX off inb).toLoadRect hl) k) Q) := by
  unfold xPts
  iintro Hx Hk
  iapply (wp_load 𝒱₀ (c : Thread nD τ) none Set.univ (m := xM) (Finset.subset_univ _)) $$ Hx
  iintro Hx
  rw [read_x m ρ c r h]
  iapply Hk; iexact Hx

theorem wp_load_fill {α : Type} {Q : α → sProp 𝕄} (n : ℕ) {off inb}
    {hl : sM.view.LoadsAt (rB off inb).toLoadRect} {k : Vec F S1x512x512 .bf16 → Prog (TpuEff nD τ sig (Elt F) Λ₀ .tc) α} :
    Fill m ρ c n
      ⊢ iprop((∀ v, Fill m ρ c n -∗ wp frame (wpE (defs₀ (F := F)) 𝒱₀ (c : Thread nD τ) none) Set.univ (k v) Q)
          -∗ wp frame (wpE (defs₀ (F := F)) 𝒱₀ (c : Thread nD τ) none) Set.univ (.op (.load sM (rB off inb).toLoadRect hl) k) Q) := by
  unfold Fill
  iintro ⟨%f, %hf, Hs⟩ Hk
  iapply (wp_load 𝒱₀ (c : Thread nD τ) none Set.univ (m := sM) (Finset.subset_univ _)) $$ Hs
  iintro Hs
  iapply Hk
  iexists f
  isplitr; · ipureintro; exact hf
  iexact Hs

theorem wp_store_fill {α : Type} {Q : α → sProp 𝕄} {k : PUnit → Prog (TpuEff nD τ sig (Elt F) Λ₀ .tc) α}
    (r : Fin 8) (n n' : ℕ) {off inb} (h : off = ![r.val, 0, 0]) {v : Vec F S1x512x512 .bf16} (hv : v = k0_pay1 (xrow m ρ c r))
    {hx : (sM.access (rB off inb)).Stores Finset.univ} {hm : (Finset.univ : Finset (rB off inb).shape.Idx) = Finset.univ ∨ ∀ a, (rB off inb).stride a = 1}
    (hn : n = r.val := by rfl) (hn' : n' = n + 1 := by rfl) :
    Fill m ρ c n
      ⊢ iprop((Fill m ρ c n' -∗ wp frame (wpE (defs₀ (F := F)) 𝒱₀ (c : Thread nD τ) none) Set.univ (k ⟨⟩) Q)
          -∗ wp frame (wpE (defs₀ (F := F)) 𝒱₀ (c : Thread nD τ) none) Set.univ (.op (.store sM (rB off inb) v Finset.univ hx hm) k) Q) := by
  subst hn' hn hv
  unfold Fill
  iintro ⟨%f, %hf, Hs⟩ Hk
  iapply (wp_store 𝒱₀ (c : Thread nD τ) none Set.univ (m := sM) (r := rB off inb) (Mk := Finset.univ) (Finset.subset_univ _)) $$ Hs
  iintro Hs
  iapply Hk
  iexists ((sM.access (rB off inb) : View sig .tc _ _ _).write (Elt F) f (k0_pay1 (xrow m ρ c r)) Finset.univ)
  isplitr
  · ipureintro; exact write_s m ρ c r h f hf
  iexact Hs

theorem wp_load_own {α : Type} {Q : α → sProp 𝕄} {off inb} (h : off = ![c.val, 0, 0])
    {hl : sM.view.LoadsAt (rB off inb).toLoadRect} {k : Vec F S1x512x512 .bf16 → Prog (TpuEff nD τ sig (Elt F) Λ₀ .tc) α} :
    sPts c c.val (XS m ρ c)
      ⊢ iprop((sPts c c.val (XS m ρ c) -∗ wp frame (wpE (defs₀ (F := F)) 𝒱₀ (c : Thread nD τ) none) Set.univ (k (xblk m ρ c 0)) Q)
          -∗ wp frame (wpE (defs₀ (F := F)) 𝒱₀ (c : Thread nD τ) none) Set.univ (.op (.load sM (rB off inb).toLoadRect hl) k) Q) := by
  unfold sPts
  iintro Hs Hk
  iapply (wp_load 𝒱₀ (c : Thread nD τ) none Set.univ (m := sM) (on_s h)) $$ Hs
  iintro Hs
  rw [read_s _ c h, XS_own]
  iapply Hk; iexact Hs

theorem wp_load_g {α : Type} {Q : α → sProp 𝕄} (e : Fin 7) (n : ℕ) {off inb} (h : off = ![e.val + 1, 0, 0])
    {hl : gM.view.LoadsAt (rB off inb).toLoadRect} {k : Vec F S1x512x512 .bf16 → Prog (TpuEff nD τ sig (Elt F) Λ₀ .tc) α}
    (hn : n = e.val + 1 := by rfl) :
    RcvSt m ρ c n
      ⊢ iprop((RcvSt m ρ c n -∗ wp frame (wpE (defs₀ (F := F)) 𝒱₀ (c : Thread nD τ) none) Set.univ (k (xblk m ρ c n)) Q)
          -∗ wp frame (wpE (defs₀ (F := F)) 𝒱₀ (c : Thread nD τ) none) Set.univ (.op (.load gM (rB off inb).toLoadRect hl) k) Q) := by
  subst hn
  unfold RcvSt
  rw [past_put e rfl]
  unfold recvPay gPts
  iintro ⟨Ht, ⟨Hg, Hz⟩, Hp⟩ Hk
  iapply (wp_load 𝒱₀ (c : Thread nD τ) none Set.univ (m := gM) (on_g h)) $$ Hg
  iintro Hg
  rw [read_g _ e.succ h, XG_inSlot']
  iapply Hk
  isplitl [Ht]; · iexact Ht
  isplitl [Hg Hz]
  · isplitl [Hg] <;> iassumption
  iexact Hp

theorem wp_load_o {α : Type} {Q : α → sProp 𝕄} (f : Vec F S512x2048 .f32)
    {hl : oM.view.LoadsAt rO.toLoadRect} {k : Vec F S512x2048 .f32 → Prog (TpuEff nD τ sig (Elt F) Λ₀ .tc) α} :
    oPts c f
      ⊢ iprop((oPts c f -∗ wp frame (wpE (defs₀ (F := F)) 𝒱₀ (c : Thread nD τ) none) Set.univ (k f) Q)
          -∗ wp frame (wpE (defs₀ (F := F)) 𝒱₀ (c : Thread nD τ) none) Set.univ (.op (.load oM rO.toLoadRect hl) k) Q) := by
  unfold oPts
  iintro Ho Hk
  iapply (wp_load 𝒱₀ (c : Thread nD τ) none Set.univ (m := oM) (Finset.subset_univ _)) $$ Ho
  iintro Ho
  rw [read_o]
  iapply Hk; iexact Ho

theorem wp_store_o {α : Type} {Q : α → sProp 𝕄} {k : PUnit → Prog (TpuEff nD τ sig (Elt F) Λ₀ .tc) α}
    (f : Vec F S512x2048 .f32) {v : Vec F S512x2048 .f32} {g : Vec F S512x2048 .f32} (hv : v = g)
    {hx : (oM.access rO).Stores Finset.univ} {hm : (Finset.univ : Finset rO.shape.Idx) = Finset.univ ∨ ∀ a, rO.stride a = 1} :
    oPts c f
      ⊢ iprop((oPts c g -∗ wp frame (wpE (defs₀ (F := F)) 𝒱₀ (c : Thread nD τ) none) Set.univ (k ⟨⟩) Q)
          -∗ wp frame (wpE (defs₀ (F := F)) 𝒱₀ (c : Thread nD τ) none) Set.univ (.op (.store oM rO v Finset.univ hx hm) k) Q) := by
  subst hv
  unfold oPts
  iintro Ho Hk
  iapply (wp_store 𝒱₀ (c : Thread nD τ) none Set.univ (m := oM) (r := rO) (Mk := Finset.univ) (Finset.subset_univ _)) $$ Ho
  iintro Ho
  rw [write_o]
  iapply Hk; iexact Ho

end

end Cert.Exchange

end
-- ==== Proof.Body.lean ====
/-
# The body of the kernel on one device

One statement for each part of the body: from what the device holds before it,
the part runs to what the device holds after it. `sound_body` joins them.
-/
module

public import proofs.«01_k».proof.Proof.Steps
public import proofs.«01_k».proof.Proof.Gen.KernelIdeal.Skeleton

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- A program runs on device `c` to the condition `Q` on its value. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable (K : Kc) (c : Dev nD) (hx : xM.IsWhole) (hw : wM.IsWhole) (ho : oM.IsWhole) (hs : sM.IsWhole) (hg : gM.IsWhole) (ht : tM.IsWhole)

/-! ## Filling the send buffer -/

theorem part1 (Q : _ → sProp 𝕄) :
    iprop(xPts m ρ c ∗ Fill m ρ c 0)
      ⊢ iprop((∀ v2, (xPts m ρ c ∗ Fill m ρ c 4) -∗ Q ⟨c, v2, k0_pay5 (xrow m ρ c 4)⟩)
        -∗ runs c (k0_part1 xM hx wM hw oM ho sM hs gM hg tM ht cc0_scratch3 cc0_scratch4 cc0_scratch5) Q) := by
  rw [k0_part1_eq_skeleton]; unfold k0_part1_skel runs
  simp only [Prog.lift, Prog.bind_op, Prog.bind_ret, Prog.pure_eq_ret, wp_deviceId]
  iintro ⟨Hx, Hf⟩ Hk
  iapply (wp_load_x m ρ c 0 rfl) $$ Hx; iintro Hx
  iapply (wp_load_fill m ρ c 0) $$ Hf; iintro %_ Hf
  iapply (wp_store_fill m ρ c 0 0 1 rfl rfl) $$ Hf; iintro Hf
  iapply (wp_load_x m ρ c 1 rfl) $$ Hx; iintro Hx
  iapply (wp_load_fill m ρ c 1) $$ Hf; iintro %_ Hf
  iapply (wp_store_fill m ρ c 1 1 2 rfl rfl) $$ Hf; iintro Hf
  iapply (wp_load_x m ρ c 2 rfl) $$ Hx; iintro Hx
  iapply (wp_load_fill m ρ c 2) $$ Hf; iintro %_ Hf
  iapply (wp_store_fill m ρ c 2 2 3 rfl rfl) $$ Hf; iintro Hf
  iapply (wp_load_x m ρ c 3 rfl) $$ Hx; iintro Hx
  iapply (wp_load_fill m ρ c 3) $$ Hf; iintro %_ Hf
  iapply (wp_store_fill m ρ c 3 3 4 rfl rfl) $$ Hf; iintro Hf
  iapply (wp_load_x m ρ c 4 rfl) $$ Hx; iintro Hx
  rw [wp_ret]; imodintro
  iapply Hk
  isplitl [Hx] <;> iassumption

theorem part2 (v2 : BitVec 32) (Q : _ → sProp 𝕄) :
    iprop(ctx m ρ K ∗ xPts m ρ c ∗ Fill m ρ c 4 ∗ SigSt c 0)
      ⊢ iprop((∀ v58, (xPts m ρ c ∗ Fill m ρ c 8 ∗ SigSt c 1) -∗ Q ⟨SemArray.scalar (sig.barrier 0 rfl), v58⟩)
        -∗ runs c (k0_part2 xM hx wM hw oM ho sM hs gM hg tM ht cc0_scratch3 cc0_scratch4 cc0_scratch5 c v2 (k0_pay5 (xrow m ρ c 4))) Q) := by
  rw [k0_part2_eq_skeleton]; unfold k0_part2_skel runs
  simp only [semSignalWord, Prog.lift, Prog.bind_op, Prog.bind_ret, Prog.pure_eq_ret]
  iintro ⟨#Hc, Hx, Hf, Hb⟩ Hk
  iapply (wp_load_fill m ρ c 4) $$ Hf; iintro %_ Hf
  iapply (wp_store_fill m ρ c 4 4 5 rfl rfl) $$ Hf; iintro Hf
  iapply (wp_load_x m ρ c 5 rfl) $$ Hx; iintro Hx
  iapply (wp_load_fill m ρ c 5) $$ Hf; iintro %_ Hf
  iapply (wp_store_fill m ρ c 5 5 6 rfl rfl) $$ Hf; iintro Hf
  iapply (wp_load_x m ρ c 6 rfl) $$ Hx; iintro Hx
  iapply (wp_load_fill m ρ c 6) $$ Hf; iintro %_ Hf
  iapply (wp_store_fill m ρ c 6 6 7 rfl rfl) $$ Hf; iintro Hf
  iapply (wp_load_x m ρ c 7 rfl) $$ Hx; iintro Hx
  iapply (wp_load_fill m ρ c 7) $$ Hf; iintro %_ Hf
  iapply (wp_store_fill m ρ c 7 7 8 rfl rfl) $$ Hf; iintro Hf
  iapply (wp_signal_step m ρ K c 0 0 1 (Fin.ext (k0_dev1_eq c))) $$ [Hb]
  · isplitr <;> iassumption
  iintro Hb
  rw [wp_ret]; imodintro
  iapply Hk
  isplitl [Hx]; · iexact Hx
  isplitl [Hf] <;> iassumption

/-! ## The barrier -/

theorem part3 (v2 v58 : BitVec 32) (Q : _ → sProp 𝕄) :
    iprop(ctx m ρ K ∗ SigSt c 1 ∗ cred (tallyAt (barCell c) () 7) ∗ atPos ER (barCell c) 0 ∅ 0)
      ⊢ iprop((∀ v81, (ow c (OR c 0) ∗ (bigSep Finset.univ fun e => barPay c e) ∗ semVal (barCell c) 0) -∗ Q v81)
        -∗ runs c (k0_part3 xM hx wM hw oM ho sM hs gM hg tM ht cc0_scratch3 cc0_scratch4 cc0_scratch5 c v2 (SemArray.scalar (sig.barrier 0 rfl)) v58) Q) := by
  rw [k0_part3_eq_skeleton]; unfold k0_part3_skel runs
  simp only [semSignalWord, semWaitWord, Prog.lift, Prog.bind_op, Prog.bind_ret, Prog.pure_eq_ret]
  iintro ⟨#Hc, Hb, Hcr, Hat⟩ Hk
  iapply (wp_signal_step m ρ K c 1 1 2 (Fin.ext (k0_dev2_eq c))) $$ [Hb]; · isplitr <;> iassumption
  iintro Hb
  iapply (wp_signal_step m ρ K c 2 2 3 (Fin.ext (k0_dev3_eq c))) $$ [Hb]; · isplitr <;> iassumption
  iintro Hb
  iapply (wp_signal_step m ρ K c 3 3 4 (Fin.ext (k0_dev4_eq c))) $$ [Hb]; · isplitr <;> iassumption
  iintro Hb
  iapply (wp_signal_step m ρ K c 4 4 5 (Fin.ext (k0_dev5_eq c))) $$ [Hb]; · isplitr <;> iassumption
  iintro Hb
  iapply (wp_signal_step m ρ K c 5 5 6 (Fin.ext (k0_dev6_eq c))) $$ [Hb]; · isplitr <;> iassumption
  iintro Hb
  iapply (wp_signal_step m ρ K c 6 6 7 (Fin.ext (k0_dev7_eq c))) $$ [Hb]; · isplitr <;> iassumption
  iintro Hb
  iapply (wp_barrier_step m ρ K c ) $$ [Hb Hcr Hat]
  · isplitr; · iexact Hc
    isplitl [Hb]; · iexact Hb
    isplitl [Hcr] <;> iassumption
  iintro H
  rw [wp_ret]; imodintro
  iapply Hk; iexact H

/-! ## The transfers -/

theorem part4 (v2 v81 : BitVec 32) (Q : _ → sProp 𝕄) :
    iprop(ctx m ρ K ∗ SndSt m ρ c 0)
      ⊢ iprop((∀ v93 v105, SndSt m ρ c 2 -∗ Q ⟨v93, v105⟩)
        -∗ runs c (k0_part4 xM hx wM hw oM ho sM hs gM hg tM ht cc0_scratch3 cc0_scratch4 cc0_scratch5 c v2 v81) Q) := by
  rw [k0_part4_eq_skeleton]; unfold k0_part4_skel runs
  simp only [Prog.lift, Prog.bind_op, Prog.bind_ret, Prog.pure_eq_ret]
  iintro ⟨#Hc, H⟩ Hk
  iapply (wp_send_step m ρ K c 0 0 1 (Fin.ext (k0_dev8_eq c)) (off1_after c 0) rfl rfl rfl) $$ [H]; · isplitr <;> iassumption
  iintro H
  iapply (wp_send_step m ρ K c 1 1 2 (Fin.ext (k0_dev9_eq c)) (off1_after c 1) rfl rfl rfl) $$ [H]; · isplitr <;> iassumption
  iintro H
  rw [wp_ret]; imodintro
  iapply Hk; iexact H

theorem part5 (v2 : BitVec 32) (Q : _ → sProp 𝕄) :
    iprop(ctx m ρ K ∗ SndSt m ρ c 2)
      ⊢ iprop((∀ v117 v129 v141, SndSt m ρ c 5 -∗ Q ⟨v117, v129, v141⟩)
        -∗ runs c (k0_part5 xM hx wM hw oM ho sM hs gM hg tM ht cc0_scratch3 cc0_scratch4 cc0_scratch5 c v2) Q) := by
  rw [k0_part5_eq_skeleton]; unfold k0_part5_skel runs
  simp only [Prog.lift, Prog.bind_op, Prog.bind_ret, Prog.pure_eq_ret]
  iintro ⟨#Hc, H⟩ Hk
  iapply (wp_send_step m ρ K c 2 2 3 (Fin.ext (k0_dev10_eq c)) (off1_after c 2) rfl rfl rfl) $$ [H]; · isplitr <;> iassumption
  iintro H
  iapply (wp_send_step m ρ K c 3 3 4 (Fin.ext (k0_dev11_eq c)) (off1_after c 3) rfl rfl rfl) $$ [H]; · isplitr <;> iassumption
  iintro H
  iapply (wp_send_step m ρ K c 4 4 5 (Fin.ext (k0_dev12_eq c)) (off1_after c 4) rfl rfl rfl) $$ [H]; · isplitr <;> iassumption
  iintro H
  rw [wp_ret]; imodintro
  iapply Hk; iexact H

theorem part6 (v2 v141 : BitVec 32) (Q : _ → sProp 𝕄) :
    iprop(ctx m ρ K ∗ SndSt m ρ c 5)
      ⊢ iprop((∀ v153, SndSt m ρ c 7 -∗ Q v153)
        -∗ runs c (k0_part6 xM hx wM hw oM ho sM hs gM hg tM ht cc0_scratch3 cc0_scratch4 cc0_scratch5 c v2 v141) Q) := by
  rw [k0_part6_eq_skeleton]; unfold k0_part6_skel runs
  simp only [Prog.lift, Prog.bind_op, Prog.bind_ret, Prog.pure_eq_ret]
  iintro ⟨#Hc, H⟩ Hk
  iapply (wp_send_step m ρ K c 5 5 6 (Fin.ext (k0_dev13_eq c)) (off1_after c 5) rfl rfl rfl) $$ [H]; · isplitr <;> iassumption
  iintro H
  iapply (wp_send_step m ρ K c 6 6 7 (Fin.ext (k0_dev14_eq c)) (off1_after c 6) rfl rfl rfl) $$ [H]; · isplitr <;> iassumption
  iintro H
  rw [wp_ret]; imodintro
  iapply Hk; iexact H

/-! ## The products -/

theorem part7 (v2 : BitVec 32) (f : Vec F S512x2048 .f32) (Q : _ → sProp 𝕄) :
    iprop(ow c 0 ∗ WIdle m c 0 ∗ WIdle m c 1 ∗ sPts c c.val (XS m ρ c) ∗ oPts c f)
      ⊢ iprop(((ow c 0 ∗ WReady m c 0 0 ∗ WFly m c 1 1 ∗ sPts c c.val (XS m ρ c) ∗ oPts c (acc m ρ c 0)) -∗ Q ⟨⟩)
        -∗ runs c (k0_part7 xM hx wM hw oM ho sM hs gM hg tM ht cc0_scratch3 cc0_scratch4 cc0_scratch5 c v2) Q) := by
  rw [k0_part7_eq_skeleton]; unfold k0_part7_skel runs
  simp only [Prog.lift, Prog.bind_op, Prog.bind_ret, Prog.pure_eq_ret]
  iintro ⟨HO, Hw0, Hw1, Hs, Hout⟩ Hk
  iapply (wp_wstart_step m c 0 0 rfl rfl rfl) $$ Hw0; iintro Hw0
  iapply (wp_wstart_step m c 1 1 rfl rfl rfl) $$ Hw1; iintro Hw1
  iapply (wp_wwait_step m c 0 0 0 rfl) $$ [HO Hw0]; · isplitl [HO] <;> iassumption
  iintro ⟨HO, Hw0⟩
  iapply (wp_load_own m ρ c (k0_off3_eq c)) $$ Hs; iintro Hs
  iapply (wp_load_w m c 0 0 rfl) $$ Hw0; iintro Hw0
  iapply (wp_load_o c f) $$ Hout; iintro Hout
  iapply (wp_store_o c f (g := acc m ρ c 0) rfl) $$ Hout; iintro Hout
  rw [wp_ret]; imodintro
  iapply Hk
  isplitl [HO]; · iexact HO
  isplitl [Hw0]; · iexact Hw0
  isplitl [Hw1]; · iexact Hw1
  isplitl [Hs] <;> iassumption

theorem part8 (v81 : BitVec 32) (Q : _ → sProp 𝕄) :
    iprop(ctx m ρ K ∗ ow c 0 ∗ WReady m c 0 0 ∗ WFly m c 1 1 ∗ RcvSt m ρ c 0 ∗ oPts c (acc m ρ c 0))
      ⊢ iprop(((ow c 0 ∗ WFly m c 0 2 ∗ WReady m c 1 1 ∗ RcvSt m ρ c 1 ∗ oPts c (acc m ρ c 1)) -∗ Q ⟨⟩)
        -∗ runs c (k0_part8 xM hx wM hw oM ho sM hs gM hg tM ht cc0_scratch3 cc0_scratch4 cc0_scratch5 c v81) Q) := by
  rw [k0_part8_eq_skeleton]; unfold k0_part8_skel runs
  simp only [Prog.lift, Prog.bind_op, Prog.bind_ret, Prog.pure_eq_ret]
  iintro ⟨#Hc, HO, Hw0, Hw1, Hr, Hout⟩ Hk
  ihave Hw0 := (WReady_idle m c 0 0) $$ Hw0
  iapply (wp_wstart_step m c 0 2 rfl rfl rfl) $$ Hw0; iintro Hw0
  iapply (wp_wwait_step m c 1 1 1 rfl) $$ [HO Hw1]; · isplitl [HO] <;> iassumption
  iintro ⟨HO, Hw1⟩
  iapply (wp_recv_step m ρ K c 0 0 1 rfl) $$ [HO Hr]
  · isplitr; · iexact Hc
    isplitl [HO] <;> iassumption
  iintro ⟨HO, Hr⟩
  iapply (wp_load_g m ρ c 0 1 rfl) $$ Hr; iintro Hr
  iapply (wp_load_w m c 1 1 rfl) $$ Hw1; iintro Hw1
  iapply (wp_load_o c (acc m ρ c 0)) $$ Hout; iintro Hout
  iapply (wp_load_o c (acc m ρ c 0)) $$ Hout; iintro Hout
  iapply (wp_store_o c (acc m ρ c 0) (g := acc m ρ c 1) rfl) $$ Hout; iintro Hout
  rw [wp_ret]; imodintro
  iapply Hk
  isplitl [HO]; · iexact HO
  isplitl [Hw0]; · iexact Hw0
  isplitl [Hw1]; · iexact Hw1
  isplitl [Hr] <;> iassumption

theorem part9 (v2 v93 : BitVec 32) (Q : _ → sProp 𝕄) :
    iprop(ctx m ρ K ∗ ow c 0 ∗ WFly m c 0 2 ∗ WReady m c 1 1 ∗ RcvSt m ρ c 1 ∗ oPts c (acc m ρ c 1))
      ⊢ iprop(((ow c 0 ∗ WReady m c 0 2 ∗ WFly m c 1 3 ∗ RcvSt m ρ c 2 ∗ oPts c (acc m ρ c 1)) -∗ Q ⟨k0_pay12 (xblk m ρ c 2), k0_pay13 (wblk m c 2), (constant S512x2048 .f32 0x00000000#32)⟩)
        -∗ runs c (k0_part9 xM hx wM hw oM ho sM hs gM hg tM ht cc0_scratch3 cc0_scratch4 cc0_scratch5 c v2 v93) Q) := by
  rw [k0_part9_eq_skeleton]; unfold k0_part9_skel runs
  simp only [Prog.lift, Prog.bind_op, Prog.bind_ret, Prog.pure_eq_ret]
  iintro ⟨#Hc, HO, Hw0, Hw1, Hr, Hout⟩ Hk
  ihave Hw1 := (WReady_idle m c 1 1) $$ Hw1
  iapply (wp_wstart_step m c 1 3 rfl rfl rfl) $$ Hw1; iintro Hw1
  iapply (wp_wwait_step m c 0 2 2 rfl) $$ [HO Hw0]; · isplitl [HO] <;> iassumption
  iintro ⟨HO, Hw0⟩
  iapply (wp_recv_step m ρ K c 1 1 2 rfl) $$ [HO Hr]
  · isplitr; · iexact Hc
    isplitl [HO] <;> iassumption
  iintro ⟨HO, Hr⟩
  iapply (wp_load_g m ρ c 1 2 rfl) $$ Hr; iintro Hr
  iapply (wp_load_w m c 0 2 rfl) $$ Hw0; iintro Hw0
  rw [wp_ret]; imodintro
  iapply Hk
  isplitl [HO]; · iexact HO
  isplitl [Hw0]; · iexact Hw0
  isplitl [Hw1]; · iexact Hw1
  isplitl [Hr] <;> iassumption

theorem part10 (v2 v105 : BitVec 32) (Q : _ → sProp 𝕄) :
    iprop(ctx m ρ K ∗ ow c 0 ∗ WReady m c 0 2 ∗ WFly m c 1 3 ∗ RcvSt m ρ c 2 ∗ oPts c (acc m ρ c 1))
      ⊢ iprop(((ow c 0 ∗ WFly m c 0 4 ∗ WReady m c 1 3 ∗ RcvSt m ρ c 3 ∗ oPts c (acc m ρ c 2)) -∗ Q ⟨⟩)
        -∗ runs c (k0_part10 xM hx wM hw oM ho sM hs gM hg tM ht cc0_scratch3 cc0_scratch4 cc0_scratch5 c v2 v105 (k0_pay12 (xblk m ρ c 2)) (k0_pay13 (wblk m c 2)) (constant S512x2048 .f32 0x00000000#32)) Q) := by
  rw [k0_part10_eq_skeleton]; unfold k0_part10_skel runs
  simp only [Prog.lift, Prog.bind_op, Prog.bind_ret, Prog.pure_eq_ret]
  iintro ⟨#Hc, HO, Hw0, Hw1, Hr, Hout⟩ Hk
  iapply (wp_load_o c (acc m ρ c 1)) $$ Hout; iintro Hout
  iapply (wp_load_o c (acc m ρ c 1)) $$ Hout; iintro Hout
  iapply (wp_store_o c (acc m ρ c 1) (g := acc m ρ c 2) rfl) $$ Hout; iintro Hout
  ihave Hw0 := (WReady_idle m c 0 2) $$ Hw0
  iapply (wp_wstart_step m c 0 4 rfl rfl rfl) $$ Hw0; iintro Hw0
  iapply (wp_wwait_step m c 1 3 3 rfl) $$ [HO Hw1]; · isplitl [HO] <;> iassumption
  iintro ⟨HO, Hw1⟩
  iapply (wp_recv_step m ρ K c 2 2 3 rfl) $$ [HO Hr]
  · isplitr; · iexact Hc
    isplitl [HO] <;> iassumption
  iintro ⟨HO, Hr⟩
  rw [wp_ret]; imodintro
  iapply Hk
  isplitl [HO]; · iexact HO
  isplitl [Hw0]; · iexact Hw0
  isplitl [Hw1]; · iexact Hw1
  isplitl [Hr] <;> iassumption

theorem part11 (v2 v117 : BitVec 32) (Q : _ → sProp 𝕄) :
    iprop(ctx m ρ K ∗ ow c 0 ∗ WFly m c 0 4 ∗ WReady m c 1 3 ∗ RcvSt m ρ c 3 ∗ oPts c (acc m ρ c 2))
      ⊢ iprop(((ow c 0 ∗ WReady m c 0 4 ∗ WFly m c 1 5 ∗ RcvSt m ρ c 3 ∗ oPts c (acc m ρ c 3)) -∗ Q ⟨⟩)
        -∗ runs c (k0_part11 xM hx wM hw oM ho sM hs gM hg tM ht cc0_scratch3 cc0_scratch4 cc0_scratch5 c v2 v117) Q) := by
  rw [k0_part11_eq_skeleton]; unfold k0_part11_skel runs
  simp only [Prog.lift, Prog.bind_op, Prog.bind_ret, Prog.pure_eq_ret]
  iintro ⟨#Hc, HO, Hw0, Hw1, Hr, Hout⟩ Hk
  iapply (wp_load_g m ρ c 2 3 rfl) $$ Hr; iintro Hr
  iapply (wp_load_w m c 1 3 rfl) $$ Hw1; iintro Hw1
  iapply (wp_load_o c (acc m ρ c 2)) $$ Hout; iintro Hout
  iapply (wp_load_o c (acc m ρ c 2)) $$ Hout; iintro Hout
  iapply (wp_store_o c (acc m ρ c 2) (g := acc m ρ c 3) rfl) $$ Hout; iintro Hout
  ihave Hw1 := (WReady_idle m c 1 3) $$ Hw1
  iapply (wp_wstart_step m c 1 5 rfl rfl rfl) $$ Hw1; iintro Hw1
  iapply (wp_wwait_step m c 0 4 4 rfl) $$ [HO Hw0]; · isplitl [HO] <;> iassumption
  iintro ⟨HO, Hw0⟩
  rw [wp_ret]; imodintro
  iapply Hk
  isplitl [HO]; · iexact HO
  isplitl [Hw0]; · iexact Hw0
  isplitl [Hw1]; · iexact Hw1
  isplitl [Hr] <;> iassumption

theorem part12 (v2 : BitVec 32) (Q : _ → sProp 𝕄) :
    iprop(ctx m ρ K ∗ ow c 0 ∗ WReady m c 0 4 ∗ WFly m c 1 5 ∗ RcvSt m ρ c 3 ∗ oPts c (acc m ρ c 3))
      ⊢ iprop(((ow c 0 ∗ WFly m c 0 6 ∗ WReady m c 1 5 ∗ RcvSt m ρ c 4 ∗ oPts c (acc m ρ c 4)) -∗ Q ⟨⟩)
        -∗ runs c (k0_part12 xM hx wM hw oM ho sM hs gM hg tM ht cc0_scratch3 cc0_scratch4 cc0_scratch5 c v2) Q) := by
  rw [k0_part12_eq_skeleton]; unfold k0_part12_skel runs
  simp only [Prog.lift, Prog.bind_op, Prog.bind_ret, Prog.pure_eq_ret]
  iintro ⟨#Hc, HO, Hw0, Hw1, Hr, Hout⟩ Hk
  iapply (wp_recv_step m ρ K c 3 3 4 rfl) $$ [HO Hr]
  · isplitr; · iexact Hc
    isplitl [HO] <;> iassumption
  iintro ⟨HO, Hr⟩
  iapply (wp_load_g m ρ c 3 4 rfl) $$ Hr; iintro Hr
  iapply (wp_load_w m c 0 4 rfl) $$ Hw0; iintro Hw0
  iapply (wp_load_o c (acc m ρ c 3)) $$ Hout; iintro Hout
  iapply (wp_load_o c (acc m ρ c 3)) $$ Hout; iintro Hout
  iapply (wp_store_o c (acc m ρ c 3) (g := acc m ρ c 4) rfl) $$ Hout; iintro Hout
  ihave Hw0 := (WReady_idle m c 0 4) $$ Hw0
  iapply (wp_wstart_step m c 0 6 rfl rfl rfl) $$ Hw0; iintro Hw0
  iapply (wp_wwait_step m c 1 5 5 rfl) $$ [HO Hw1]; · isplitl [HO] <;> iassumption
  iintro ⟨HO, Hw1⟩
  rw [wp_ret]; imodintro
  iapply Hk
  isplitl [HO]; · iexact HO
  isplitl [Hw0]; · iexact Hw0
  isplitl [Hw1]; · iexact Hw1
  isplitl [Hr] <;> iassumption

theorem part13 (v2 v129 : BitVec 32) (Q : _ → sProp 𝕄) :
    iprop(ctx m ρ K ∗ ow c 0 ∗ WFly m c 0 6 ∗ WReady m c 1 5 ∗ RcvSt m ρ c 4 ∗ oPts c (acc m ρ c 4))
      ⊢ iprop(((ow c 0 ∗ WFly m c 0 6 ∗ WFly m c 1 7 ∗ RcvSt m ρ c 5 ∗ oPts c (acc m ρ c 5)) -∗ Q ⟨⟩)
        -∗ runs c (k0_part13 xM hx wM hw oM ho sM hs gM hg tM ht cc0_scratch3 cc0_scratch4 cc0_scratch5 c v2 v129) Q) := by
  rw [k0_part13_eq_skeleton]; unfold k0_part13_skel runs
  simp only [Prog.lift, Prog.bind_op, Prog.bind_ret, Prog.pure_eq_ret]
  iintro ⟨#Hc, HO, Hw0, Hw1, Hr, Hout⟩ Hk
  iapply (wp_recv_step m ρ K c 4 4 5 rfl) $$ [HO Hr]
  · isplitr; · iexact Hc
    isplitl [HO] <;> iassumption
  iintro ⟨HO, Hr⟩
  iapply (wp_load_g m ρ c 4 5 rfl) $$ Hr; iintro Hr
  iapply (wp_load_w m c 1 5 rfl) $$ Hw1; iintro Hw1
  iapply (wp_load_o c (acc m ρ c 4)) $$ Hout; iintro Hout
  iapply (wp_load_o c (acc m ρ c 4)) $$ Hout; iintro Hout
  iapply (wp_store_o c (acc m ρ c 4) (g := acc m ρ c 5) rfl) $$ Hout; iintro Hout
  ihave Hw1 := (WReady_idle m c 1 5) $$ Hw1
  iapply (wp_wstart_step m c 1 7 rfl rfl rfl) $$ Hw1; iintro Hw1
  rw [wp_ret]; imodintro
  iapply Hk
  isplitl [HO]; · iexact HO
  isplitl [Hw0]; · iexact Hw0
  isplitl [Hw1]; · iexact Hw1
  isplitl [Hr] <;> iassumption

theorem part14 (v141 : BitVec 32) (Q : _ → sProp 𝕄) :
    iprop(ctx m ρ K ∗ ow c 0 ∗ WFly m c 0 6 ∗ WFly m c 1 7 ∗ RcvSt m ρ c 5 ∗ oPts c (acc m ρ c 5))
      ⊢ iprop(((ow c 0 ∗ WReady m c 0 6 ∗ WFly m c 1 7 ∗ RcvSt m ρ c 6 ∗ oPts c (acc m ρ c 6)) -∗ Q ⟨⟩)
        -∗ runs c (k0_part14 xM hx wM hw oM ho sM hs gM hg tM ht cc0_scratch3 cc0_scratch4 cc0_scratch5 c v141) Q) := by
  rw [k0_part14_eq_skeleton]; unfold k0_part14_skel runs
  simp only [Prog.lift, Prog.bind_op, Prog.bind_ret, Prog.pure_eq_ret]
  iintro ⟨#Hc, HO, Hw0, Hw1, Hr, Hout⟩ Hk
  iapply (wp_wwait_step m c 0 6 6 rfl) $$ [HO Hw0]; · isplitl [HO] <;> iassumption
  iintro ⟨HO, Hw0⟩
  iapply (wp_recv_step m ρ K c 5 5 6 rfl) $$ [HO Hr]
  · isplitr; · iexact Hc
    isplitl [HO] <;> iassumption
  iintro ⟨HO, Hr⟩
  iapply (wp_load_g m ρ c 5 6 rfl) $$ Hr; iintro Hr
  iapply (wp_load_w m c 0 6 rfl) $$ Hw0; iintro Hw0
  iapply (wp_load_o c (acc m ρ c 5)) $$ Hout; iintro Hout
  iapply (wp_load_o c (acc m ρ c 5)) $$ Hout; iintro Hout
  iapply (wp_store_o c (acc m ρ c 5) (g := acc m ρ c 6) rfl) $$ Hout; iintro Hout
  rw [wp_ret]; imodintro
  iapply Hk
  isplitl [HO]; · iexact HO
  isplitl [Hw0]; · iexact Hw0
  isplitl [Hw1]; · iexact Hw1
  isplitl [Hr] <;> iassumption

theorem part15 (v153 : BitVec 32) (Q : _ → sProp 𝕄) :
    iprop(ctx m ρ K ∗ ow c 0 ∗ WReady m c 0 6 ∗ WFly m c 1 7 ∗ RcvSt m ρ c 6 ∗ oPts c (acc m ρ c 6) ∗ SdwSt m ρ c 0)
      ⊢ iprop(((ow c 0 ∗ WReady m c 0 6 ∗ WReady m c 1 7 ∗ RcvSt m ρ c 7 ∗ oPts c (acc m ρ c 7) ∗ SdwSt m ρ c 1) -∗ Q ⟨⟩)
        -∗ runs c (k0_part15 xM hx wM hw oM ho sM hs gM hg tM ht cc0_scratch3 cc0_scratch4 cc0_scratch5 c v153) Q) := by
  rw [k0_part15_eq_skeleton]; unfold k0_part15_skel runs
  simp only [Prog.lift, Prog.bind_op, Prog.bind_ret, Prog.pure_eq_ret]
  iintro ⟨#Hc, HO, Hw0, Hw1, Hr, Hout, Hd⟩ Hk
  iapply (wp_wwait_step m c 1 7 7 rfl) $$ [HO Hw1]; · isplitl [HO] <;> iassumption
  iintro ⟨HO, Hw1⟩
  iapply (wp_recv_step m ρ K c 6 6 7 rfl) $$ [HO Hr]
  · isplitr; · iexact Hc
    isplitl [HO] <;> iassumption
  iintro ⟨HO, Hr⟩
  iapply (wp_load_g m ρ c 6 7 rfl) $$ Hr; iintro Hr
  iapply (wp_load_w m c 1 7 rfl) $$ Hw1; iintro Hw1
  iapply (wp_load_o c (acc m ρ c 6)) $$ Hout; iintro Hout
  iapply (wp_load_o c (acc m ρ c 6)) $$ Hout; iintro Hout
  iapply (wp_store_o c (acc m ρ c 6) (g := acc m ρ c 7) rfl) $$ Hout; iintro Hout
  iapply (wp_sent_step m ρ K c 0 0 1 rfl) $$ [HO Hd]
  · isplitr; · iexact Hc
    isplitl [HO] <;> iassumption
  iintro ⟨HO, Hd⟩
  rw [wp_ret]; imodintro
  iapply Hk
  isplitl [HO]; · iexact HO
  isplitl [Hw0]; · iexact Hw0
  isplitl [Hw1]; · iexact Hw1
  isplitl [Hr]; · iexact Hr
  isplitl [Hout] <;> iassumption

/-! ## The transfers have left -/

theorem part16 (Q : _ → sProp 𝕄) :
    iprop(ctx m ρ K ∗ ow c 0 ∗ SdwSt m ρ c 1)
      ⊢ iprop(((ow c 0 ∗ SdwSt m ρ c 5) -∗ Q ⟨⟩)
        -∗ runs c (k0_part16 xM hx wM hw oM ho sM hs gM hg tM ht cc0_scratch3 cc0_scratch4 cc0_scratch5 c) Q) := by
  rw [k0_part16_eq_skeleton]; unfold k0_part16_skel runs
  simp only [Prog.lift, Prog.bind_op, Prog.bind_ret, Prog.pure_eq_ret]
  iintro ⟨#Hc, HO, Hd⟩ Hk
  iapply (wp_sent_step m ρ K c 1 1 2 rfl) $$ [HO Hd]
  · isplitr; · iexact Hc
    isplitl [HO] <;> iassumption
  iintro ⟨HO, Hd⟩
  iapply (wp_sent_step m ρ K c 2 2 3 rfl) $$ [HO Hd]
  · isplitr; · iexact Hc
    isplitl [HO] <;> iassumption
  iintro ⟨HO, Hd⟩
  iapply (wp_sent_step m ρ K c 3 3 4 rfl) $$ [HO Hd]
  · isplitr; · iexact Hc
    isplitl [HO] <;> iassumption
  iintro ⟨HO, Hd⟩
  iapply (wp_sent_step m ρ K c 4 4 5 rfl) $$ [HO Hd]
  · isplitr; · iexact Hc
    isplitl [HO] <;> iassumption
  iintro ⟨HO, Hd⟩
  rw [wp_ret]; imodintro
  iapply Hk
  isplitl [HO] <;> iassumption

end

end Cert.Exchange

end
-- ==== Proof.Joined.lean ====
/-
# The parts of the body joined

What a device holds when it enters the kernel, what it holds when it leaves it,
and the run of the whole body from the one to the other.
-/
module

public import proofs.«01_k».proof.Proof.Body
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-! ## Buffers as their slots -/

section
variable (c : Dev nD)

omit [FloatOps F] in
/-- A product over the eight slots: one slot, and the seven others in the order of the transfers from it. -/
theorem around (Φ : Fin 8 → sProp 𝕄) : bigSep Finset.univ Φ = iprop(Φ c ∗ bigSep Finset.univ fun e : Fin 7 => Φ (after c e)) := by
  have h : (Finset.univ : Finset (Fin 8)) = insert c ((Finset.univ : Finset (Fin 7)).map ⟨after c, fun e e' => after_inj c e e'⟩) :=
    Finset.ext fun d => by
      simp only [Finset.mem_univ, Finset.mem_insert, Finset.mem_map, Function.Embedding.coeFn_mk, true_and, true_iff]
      revert c d; decide
  have hn : c ∉ ((Finset.univ : Finset (Fin 7)).map ⟨after c, fun e e' => after_inj c e e'⟩) := by
    simp only [Finset.mem_map, Finset.mem_univ, Function.Embedding.coeFn_mk, true_and, not_exists]
    exact after_ne c
  rw [h, BI.bigSep_insert hn, BI.bigSep_map]; rfl

omit [FloatOps F] in
/-- The send buffer is its slot `c` and the slots of the seven peers. -/
theorem s_slots (f : Buf (Elt F) ((c : Thread nD τ).loc cc0_scratch0)) :
    ((((c : Thread nD τ).loc cc0_scratch0) ↦{fullShare} f) : sProp 𝕄) = iprop(sPts c c.val f ∗ bigSep Finset.univ fun e => sPts c (after c e).val f) := by
  rw [pointsTo_blocks (fun k : Fin 8 => slot (n := 8) (A := 512) (B := 512) k.val) slot_disjoint slot_cover, around c]; rfl

omit [FloatOps F] in
theorem g_around (Φ : ℕ → sProp 𝕄) :
    bigSep Finset.univ (fun k : Fin 8 => Φ k.val) = iprop(Φ 0 ∗ bigSep Finset.univ fun e : Fin 7 => Φ (e.val + 1)) := by
  rw [around (F := F) (0 : Fin 8)]
  congr 1

omit [FloatOps F] in
theorem g_some (k : ℕ) (f : Buf (Elt F) ((c : Thread nD τ).loc cc0_scratch1)) : (gPts c k f : sProp 𝕄) ⊢ iprop(∃ f, gPts c k f) := by
  iintro H; iexists f; iexact H

omit [FloatOps F] in
/-- The receive buffer at entry: its slot 0, never written, and the slots to be handed to the peers. -/
theorem g_slots (f : Buf (Elt F) ((c : Thread nD τ).loc cc0_scratch1)) :
    ((((c : Thread nD τ).loc cc0_scratch1) ↦{fullShare} f) : sProp 𝕄) ⊢ iprop((∃ f, gPts c 0 f) ∗ bigSep Finset.univ fun e : Fin 7 => iprop(∃ f, gPts c (e.rev.val + 1) f)) := by
  rw [pointsTo_blocks (fun k : Fin 8 => slot (n := 8) (A := 512) (B := 512) k.val) slot_disjoint slot_cover]
  have h := g_around (F := F) fun k => gPts c k f
  rw [bigSep_univ_equiv Fin.revPerm (fun e : Fin 7 => (gPts c (e.val + 1) f : sProp 𝕄))] at h
  exact (Entails.of_eq h).trans (BI.sep_mono (g_some c 0 f) (bigSep_mono fun e _ => g_some c (e.rev.val + 1) f))

/-- The receive buffer at exit: its slots join to the buffer whole. -/
theorem g_join :
    iprop((∃ f, gPts c 0 f) ∗ bigSep Finset.univ fun e : Fin 7 => recvPay m ρ c e)
      ⊢ iprop(∃ f : Buf (Elt F) ((c : Thread nD τ).loc cc0_scratch1), (((c : Thread nD τ).loc cc0_scratch1) ↦{fullShare} f) : sProp 𝕄) := by
  refine BI.Entails.trans ?_ (pointsTo_blocks_join_exists (fun k : Fin 8 => slot (n := 8) (A := 512) (B := 512) k.val) slot_disjoint slot_cover (XG m ρ c))
  refine BI.Entails.trans ?_ (Entails.of_eq (g_around (F := F) fun k => iprop(∃ f, gPts c k f)).symm)
  exact BI.sep_mono (BI.Entails.refl _) (bigSep_mono fun e _ => g_some c (e.val + 1) (XG m ρ c))

omit [FloatOps F] in
/-- The weight buffer is its two slots, -/
theorem t_slots (f : Buf (Elt F) ((c : Thread nD τ).loc cc0_scratch2)) :
    ((((c : Thread nD τ).loc cc0_scratch2) ↦{fullShare} f) : sProp 𝕄) = iprop(tPts c 0 f ∗ tPts c 1 f) := by
  rw [pointsTo_blocks (fun k : Fin 2 => slot (n := 2) (A := 512) (B := 2048) k.val) slot_disjoint slot_cover, BI.bigSep_fin_two]; rfl

omit [FloatOps F] in
/-- and two slots of any contents join to it. -/
theorem t_join (f g : Buf (Elt F) ((c : Thread nD τ).loc cc0_scratch2)) :
    (iprop(tPts c 0 f ∗ tPts c 1 g) : sProp 𝕄) ⊢ iprop(∃ f : Buf (Elt F) ((c : Thread nD τ).loc cc0_scratch2), (((c : Thread nD τ).loc cc0_scratch2) ↦{fullShare} f)) := by
  refine BI.Entails.trans ?_ (pointsTo_blocks_join_exists (fun k : Fin 2 => slot (n := 2) (A := 512) (B := 2048) k.val) slot_disjoint slot_cover f)
  rw [BI.bigSep_fin_two]
  show iprop(tPts c 0 f ∗ tPts c 1 g) ⊢ iprop((∃ f, tPts c 0 f) ∗ ∃ f, tPts c 1 f)
  iintro ⟨H, H'⟩
  isplitl [H]
  · iexists f; iexact H
  · iexists g; iexact H'

omit [FloatOps F] in
/-- The right operand in two shares. -/
theorem w_shares : ((((c : Thread nD τ).loc main_arg1) ↦{fullShare} wAt m c) : sProp 𝕄)
    ⊣⊢ iprop((((c : Thread nD τ).loc main_arg1) ↦{wq 0} wAt m c) ∗ (((c : Thread nD τ).loc main_arg1) ↦{wq 1} wAt m c)) :=
  pointsTo_share (PosShare.mem_left_op_right fullShare)

end

/-! ## Entry and exit -/

section
variable (K : Kc) (c : Dev nD)

/-- The tokens and positions of device `c`: of its signals, of its transfers, of its waits. -/
def linear (c : Dev nD) : sProp 𝕄 :=
  iprop((atPos ER (barCell c) 0 ∅ 0
      ∗ (bigSep Finset.univ fun e : Fin 7 => atPos ER (sendCell c e) 0 ∅ 0) ∗ (bigSep Finset.univ fun e : Fin 7 => atPos ER (recvCell c e) 0 ∅ 0))
    ∗ (bigSep Finset.univ fun e : Fin 7 => dutyTok ER (barCell (after c e)) 0 e.rev)
    ∗ (bigSep Finset.univ fun e : Fin 7 => dutyTok ER (sendCell c e) 0 0) ∗ (bigSep Finset.univ fun e : Fin 7 => dutyTok ER (recvCell (after c e) e) 0 0))

/-- The credit for what the peers owe device `c`. -/
def credits (c : Dev nD) : sProp 𝕄 :=
  iprop(cred (tallyAt (barCell c) () 7) ∗ bigSep Finset.univ fun e : Fin 7 => cred (tallyAt (recvCell c e) () N))

/-- The kernel's scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The right operand, unchanged. -/
def wPts (c : Dev nD) : sProp 𝕄 := ((c : Thread nD τ).loc main_arg1) ↦{fullShare} wAt m c

/-- The semaphores of the weight copies, at zero. -/
def wSems (c : Dev nD) : sProp 𝕄 := iprop(semVal (wCell c 0) 0 ∗ semVal (wCell c 1) 0)

/-- The exchange's semaphores of device `c`, at zero and closed. -/
def closed (c : Dev nD) : sProp 𝕄 :=
  iprop(semVal (barCell c) 0 ∗ (bigSep Finset.univ fun e : Fin 7 => semVal (sendCell c e) 0) ∗ bigSep Finset.univ fun e : Fin 7 => semVal (recvCell c e) 0)

/-- The body on device `c`: from the launch's holdings it runs to the end, every semaphore closed at zero, every
    scratch buffer given back, the operands unchanged and the result buffer at the sum of all eight products. -/
theorem runs_body (Q : PUnit → sProp 𝕄) (f : Buf (Elt F) ((c : Thread nD τ).loc cc0_stg1_0)) :
    iprop(ctx m ρ K ∗ linear c ∗ credits c ∗ scratch c ∗ wPts m c ∗ wSems c ∗ ow c (O₀ c) ∗ xPts m ρ c ∗ oPts c f)
      ⊢ iprop(((closed c ∗ scratch c ∗ wPts m c ∗ wSems c ∗ ow c 0 ∗ xPts m ρ c ∗ oPts c (acc m ρ c 7)) -∗ Q ⟨⟩)
        -∗ runs c (cc0_body xM (Memref.isWhole_whole _) wM (Memref.isWhole_whole _) oM (Memref.isWhole_whole _) sM (Memref.isWhole_whole _)
            gM (Memref.isWhole_whole _) tM (Memref.isWhole_whole _) cc0_scratch3 cc0_scratch4 cc0_scratch5) Q) := by
  rw [cc0_body_eq_skeleton]; unfold cc0_body_skel runs
  unfold linear credits scratch wPts wSems closed
  iintro ⟨#Hc, ⟨⟨HaB, HaS, HaR⟩, HtB, HtS, HtR⟩, ⟨HcB, HcR⟩, ⟨⟨%fs, Hs⟩, ⟨%fg, Hg⟩, ⟨%ft, Ht⟩⟩, Hw, ⟨Hv0, Hv1⟩, HO, Hx, Hout⟩ Hk
  -- the send buffer filled
  rw [wp_bind]
  iapply (part1 m ρ c _ _ _ _ _ _ _) $$ [Hx Hs]
  · isplitl [Hx]; · iexact Hx
    unfold Fill
    iexists fs; isplitr; · ipureintro; exact fun i h => absurd h (Nat.not_lt_zero _)
    iexact Hs
  iintro %v2 ⟨Hx, Hf⟩
  -- the receive buffer's slots handed to the peers
  ihave Hg' := (g_slots (F := F) c fg) $$ Hg
  icases Hg' with ⟨Hg0, Hg⟩
  rw [wp_bind]
  iapply (part2 m ρ K c _ _ _ _ _ _ _) $$ [Hx Hf HO HtB Hg]
  · isplitr; · iexact Hc
    isplitl [Hx]; · iexact Hx
    isplitl [Hf]; · iexact Hf
    unfold SigSt
    isplitl [HO]; · iexact HO
    rw [todo_zero, bigSep_sep']
    isplitl [HtB] <;> iassumption
  iintro %v58 ⟨Hx, Hf, Hsig⟩
  rw [wp_bind]
  iapply (part3 m ρ K c _ _ _ _ _ _ _ _) $$ [Hsig HcB HaB]
  · isplitr; · iexact Hc
    isplitl [Hsig]; · iexact Hsig
    isplitl [HcB] <;> iassumption
  iintro %v81 ⟨HO, Hbar, HzB⟩
  -- the transfers
  unfold Fill
  icases Hf with ⟨%fs', %hfs, Hs⟩
  have hfs' : fs' = XS m ρ c := funext fun i => hfs i (i 0).isLt
  subst hfs'
  ihave Hs' := (Entails.of_eq (s_slots (F := F) c (XS m ρ c))) $$ Hs
  icases Hs' with ⟨Hown, Hs⟩
  rw [wp_bind]
  iapply (part4 m ρ K c _ _ _ _ _ _ _ _ _) $$ [HO HtS HtR Hbar Hs]
  · isplitr; · iexact Hc
    unfold SndSt
    isplitl [HO]; · iexact HO
    rw [todo_zero, past_zero, bigSep_sep', bigSep_sep', bigSep_sep', bigSep_empty]
    isplitl [HtS HtR Hbar Hs]
    · isplitl [HtS HtR]
      · isplitl [HtS] <;> iassumption
      isplitl [Hbar]; · iexact Hbar
      unfold sendPay; iexact Hs
    · iempintro
  iintro %v93 %v105 Hsnd
  rw [wp_bind]
  iapply (part5 m ρ K c _ _ _ _ _ _ _ _) $$ [Hsnd]
  · isplitr; · iexact Hc
    iexact Hsnd
  iintro %v117 %v129 %v141 Hsnd
  rw [wp_bind]
  iapply (part6 m ρ K c _ _ _ _ _ _ _ _ _) $$ [Hsnd]
  · isplitr; · iexact Hc
    iexact Hsnd
  iintro %v153 Hsnd
  unfold SndSt
  rw [OR_end, todo_seven, past_seven, bigSep_empty]
  icases Hsnd with ⟨HO, -, HcS⟩
  -- the products
  ihave Hw' := (w_shares m c).1 $$ Hw
  icases Hw' with ⟨Hw0, Hw1⟩
  ihave Ht' := (Entails.of_eq (t_slots (F := F) c ft)) $$ Ht
  icases Ht' with ⟨Ht0, Ht1⟩
  rw [wp_bind]
  iapply (part7 m ρ c _ _ _ _ _ _ _ f _) $$ [HO Hv0 Hw0 Ht0 Hv1 Hw1 Ht1 Hown Hout]
  · isplitl [HO]; · iexact HO
    unfold WIdle
    isplitl [Hv0 Hw0 Ht0]
    · isplitl [Hv0]; · iexact Hv0
      isplitl [Hw0]; · iexact Hw0
      iexists ft; iexact Ht0
    isplitl [Hv1 Hw1 Ht1]
    · isplitl [Hv1]; · iexact Hv1
      isplitl [Hw1]; · iexact Hw1
      iexists ft; iexact Ht1
    isplitl [Hown] <;> iassumption
  iintro ⟨HO, Hw0, Hw1, Hown, Hout⟩
  rw [wp_bind]
  iapply (part8 m ρ K c _ _ _ _ _ _ _ _) $$ [HO Hw0 Hw1 HcR HaR Hout]
  · isplitr; · iexact Hc
    isplitl [HO]; · iexact HO
    isplitl [Hw0]; · iexact Hw0
    isplitl [Hw1]; · iexact Hw1
    isplitr [Hout]
    · unfold RcvSt
      rw [todo_zero, past_zero, bigSep_sep', bigSep_empty]
      isplitl [HcR HaR]
      · isplitl [HcR] <;> iassumption
      · iempintro
    iexact Hout
  iintro ⟨HO, Hw0, Hw1, Hr, Hout⟩
  rw [wp_bind]
  iapply (part9 m ρ K c _ _ _ _ _ _ _ _ _) $$ [HO Hw0 Hw1 Hr Hout]
  · isplitr; · iexact Hc
    isplitl [HO]; · iexact HO
    isplitl [Hw0]; · iexact Hw0
    isplitl [Hw1]; · iexact Hw1
    isplitl [Hr] <;> iassumption
  iintro ⟨HO, Hw0, Hw1, Hr, Hout⟩
  rw [wp_bind]
  iapply (part10 m ρ K c _ _ _ _ _ _ _ _ _) $$ [HO Hw0 Hw1 Hr Hout]
  · isplitr; · iexact Hc
    isplitl [HO]; · iexact HO
    isplitl [Hw0]; · iexact Hw0
    isplitl [Hw1]; · iexact Hw1
    isplitl [Hr] <;> iassumption
  iintro ⟨HO, Hw0, Hw1, Hr, Hout⟩
  rw [wp_bind]
  iapply (part11 m ρ K c _ _ _ _ _ _ _ _ _) $$ [HO Hw0 Hw1 Hr Hout]
  · isplitr; · iexact Hc
    isplitl [HO]; · iexact HO
    isplitl [Hw0]; · iexact Hw0
    isplitl [Hw1]; · iexact Hw1
    isplitl [Hr] <;> iassumption
  iintro ⟨HO, Hw0, Hw1, Hr, Hout⟩
  rw [wp_bind]
  iapply (part12 m ρ K c _ _ _ _ _ _ _ _) $$ [HO Hw0 Hw1 Hr Hout]
  · isplitr; · iexact Hc
    isplitl [HO]; · iexact HO
    isplitl [Hw0]; · iexact Hw0
    isplitl [Hw1]; · iexact Hw1
    isplitl [Hr] <;> iassumption
  iintro ⟨HO, Hw0, Hw1, Hr, Hout⟩
  rw [wp_bind]
  iapply (part13 m ρ K c _ _ _ _ _ _ _ _ _) $$ [HO Hw0 Hw1 Hr Hout]
  · isplitr; · iexact Hc
    isplitl [HO]; · iexact HO
    isplitl [Hw0]; · iexact Hw0
    isplitl [Hw1]; · iexact Hw1
    isplitl [Hr] <;> iassumption
  iintro ⟨HO, Hw0, Hw1, Hr, Hout⟩
  rw [wp_bind]
  iapply (part14 m ρ K c _ _ _ _ _ _ _ _) $$ [HO Hw0 Hw1 Hr Hout]
  · isplitr; · iexact Hc
    isplitl [HO]; · iexact HO
    isplitl [Hw0]; · iexact Hw0
    isplitl [Hw1]; · iexact Hw1
    isplitl [Hr] <;> iassumption
  iintro ⟨HO, Hw0, Hw1, Hr, Hout⟩
  rw [wp_bind]
  iapply (part15 m ρ K c _ _ _ _ _ _ _ _) $$ [HO Hw0 Hw1 Hr Hout HcS HaS]
  · isplitr; · iexact Hc
    isplitl [HO]; · iexact HO
    isplitl [Hw0]; · iexact Hw0
    isplitl [Hw1]; · iexact Hw1
    isplitl [Hr]; · iexact Hr
    isplitl [Hout]; · iexact Hout
    unfold SdwSt
    rw [todo_zero, past_zero, bigSep_sep', bigSep_empty]
    isplitl [HcS HaS]
    · isplitl [HcS] <;> iassumption
    · iempintro
  iintro ⟨HO, Hw0, Hw1, Hr, Hout, Hd⟩
  rw [wp_bind]
  iapply (part16 m ρ K c _ _ _ _ _ _ _) $$ [HO Hd]
  · isplitr; · iexact Hc
    isplitl [HO] <;> iassumption
  iintro ⟨HO, Hd⟩
  simp only [Prog.lift, Prog.bind_op, Prog.bind_ret, Prog.pure_eq_ret]
  iapply (wp_sent_step m ρ K c 5 5 6 rfl) $$ [HO Hd]
  · isplitr; · iexact Hc
    isplitl [HO] <;> iassumption
  iintro ⟨HO, Hd⟩
  iapply (wp_sent_step m ρ K c 6 6 7 rfl) $$ [HO Hd]
  · isplitr; · iexact Hc
    isplitl [HO] <;> iassumption
  iintro ⟨HO, Hd⟩
  rw [wp_ret]; imodintro
  iapply Hk
  -- the buffers put together again
  unfold RcvSt SdwSt WReady
  rw [todo_seven, past_seven, bigSep_empty, bigSep_empty, bigSep_sep', bigSep_sep']
  icases Hr with ⟨-, Hg, HzR⟩
  icases Hd with ⟨-, Hs, HzS⟩
  icases Hw0 with ⟨Hv0, Hw0, Ht0⟩
  icases Hw1 with ⟨Hv1, Hw1, Ht1⟩
  isplitl [HzB HzS HzR]
  · isplitl [HzB]; · iexact HzB
    isplitl [HzS] <;> iassumption
  isplitl [Hs Hown Hg Hg0 Ht0 Ht1]
  · isplitl [Hs Hown]
    · iexists (XS m ρ c)
      iapply (Entails.of_eq (s_slots (F := F) c (XS m ρ c)).symm)
      isplitl [Hown]; · iexact Hown
      unfold sendPay; iexact Hs
    isplitl [Hg Hg0]
    · iapply (g_join m ρ c)
      isplitl [Hg0] <;> iassumption
    iapply (t_join (F := F) c _ _)
    isplitl [Ht0]; · iexact Ht0
    iexact Ht1
  isplitl [Hw0 Hw1]
  · iapply (w_shares m c).2
    isplitl [Hw0] <;> iassumption
  isplitl [Hv0 Hv1]
  · isplitl [Hv0] <;> iassumption
  isplitl [HO]; · iexact HO
  isplitl [Hx] <;> iassumption

end

end Cert.Exchange

end
-- ==== Proof.Run.lean ====
/-
# The launch: from the memory at start to the run of the whole mesh

The launch's holdings are dealt to the devices: each keeps its positions, gets
the tokens of the duties it pays and the credit its peers owe it. `run_main` is
the run, for any float values: it ends, the operands are unchanged, the result
array of every device is the sum of its eight products, every semaphore is zero.
-/
module

public import proofs.«01_k».proof.Proof.Joined
public import proofs.«01_k».proof.Proof.Gen.KernelIdeal.Points
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The exchange's records: an invariant and a reached round for every cell of every device. -/
def records (K : Kc) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Kc) : BI.Persistent (records (F := F) m ρ K) := by unfold records; infer_instance

/-- What a device has of the exchange before it enters the kernel. -/
def dealt (c : Dev nD) : sProp 𝕄 := iprop(∃ K, records m ρ K ∗ linear c ∗ wSems c)

def start (c : Dev nD) : sProp 𝕄 := iprop(dealt m ρ c ∗ levAts L lv ∗ credits c ∗ wPts m c)
def Φ₀ (c : Dev nD) : sProp 𝕄 := iprop(start m ρ c ∗ scratch c)
def Φ₁ (c : Dev nD) : sProp 𝕄 := iprop(closed c ∗ scratch c ∗ wPts m c ∗ wSems c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => acc m ρ c 7
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## The body's obligation -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (xstg m ρ c) ∗ stg c cc0_stg1_0 (acc m ρ c 7))

/-- The body from the launch's holdings to the exit's. -/
theorem sound_body (c : Dev nD) :
    bodyPre m ρ c ⊢ runs c (cc0_body xM (Memref.isWhole_whole _) wM (Memref.isWhole_whole _) oM (Memref.isWhole_whole _) sM (Memref.isWhole_whole _)
            gM (Memref.isWhole_whole _) tM (Memref.isWhole_whole _) cc0_scratch3 cc0_scratch4 cc0_scratch5) (fun _ => bodyPost m ρ c) := by
  unfold bodyPre Φ₀ start dealt
  iintro ⟨⟨⟨⟨%K, Hrec, Hlin, Hv⟩, Hlev, Hcr, Hw⟩, Hscr⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (runs_body m ρ K c (fun _ => bodyPost m ρ c) g1) $$ [Hrec Hlev Hlin Hcr Hscr Hw Hv HO Hx Hout]
  · isplitl [Hrec Hlev]
    · unfold ctx
      isplitl [Hrec]; · unfold records; iexact Hrec
      iexact Hlev
    isplitl [Hlin]; · iexact Hlin
    isplitl [Hcr]; · iexact Hcr
    isplitl [Hscr]; · iexact Hscr
    isplitl [Hw]; · iexact Hw
    isplitl [Hv]; · iexact Hv
    isplitl [HO]; · unfold ow; iexists W; iexact HO
    isplitl [Hx]; · unfold xPts; iexact Hx
    unfold oPts; iexact Hout
  unfold bodyPost Φ₁ Dat.owesAt Pipeline.owesWithin ow xPts oPts
  rw [show (dats m ρ 0 c).owed t0_0.succ = 0 from rfl]
  iintro ⟨Hcl, Hscr, Hw, Hv, ⟨%W', HO⟩, Hx, Hout⟩
  isplitl [Hcl Hscr Hw Hv]
  · isplitl [Hcl]; · iexact Hcl
    isplitl [Hscr]; · iexact Hscr
    isplitl [Hw] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 16384 in
/-- The library's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ runs c (cc0_body xM (Memref.isWhole_whole _) wM (Memref.isWhole_whole _) oM (Memref.isWhole_whole _) sM (Memref.isWhole_whole _)
            gM (Memref.isWhole_whole _) tM (Memref.isWhole_whole _) cc0_scratch3 cc0_scratch4 cc0_scratch5) (fun _ => bodyPost m ρ c)
  exact sound_body m ρ c

/-! ## The launch -/

/-- The kernel's own semaphores: of the weight copies, of the sends, of the receives. -/
abbrev osem : Fin 2 ⊕ (Fin 7 ⊕ Fin 7) → SemLoc sig
  | .inl k => .dma (wS k)
  | .inr (.inl e) => .dma (sS e)
  | .inr (.inr e) => .dma (rS e)

theorem ownSemFacts : Pipeline.OwnSemFacts cfg0.spec osem := by decide +kernel

theorem share_eq (c : Dev nD) (w : Fin cfg0.W) : (dats m ρ 0 c).share w = fullShare := by unfold Dat.share; split <;> rfl

/-- The cell of a kind, whatever the device. -/
def csem : CK → SemLoc sig
  | .inl _ => .reg barS
  | .inr (.inl e) => .dma (sS e)
  | .inr (.inr e) => .dma (rS e)
theorem csem_injective : Function.Injective csem := by decide

theorem kcell_injective : Function.Injective kcell := by
  have h1 (ck : Dev nD × CK) : (kcell ck).1.1 = ck.1 := by rcases ck with ⟨c, _ | _ | _⟩ <;> rfl
  have h2 (ck : Dev nD × CK) : (kcell ck).2 = csem ck.2 := by rcases ck with ⟨c, _ | _ | _⟩ <;> rfl
  intro a b h
  exact Prod.ext ((h1 a).symm.trans ((congrArg (fun g : GSem nD τ sig => g.1.1) h).trans (h1 b)))
    (csem_injective ((h2 a).symm.trans ((congrArg Prod.snd h).trans (h2 b))))
def exCells : Finset (GSem nD τ sig) := Finset.univ.map ⟨kcell, kcell_injective⟩

/-- The duties of a device's cells: seven of its barrier cell, one of each send and each receive cell. -/
abbrev TK : Type := Fin 7 ⊕ (Fin 7 ⊕ Fin 7)
def tcell : TK → CK × Fin 7
  | .inl e => (.inl (), e)
  | .inr (.inl e) => (.inr (.inl e), 0)
  | .inr (.inr e) => (.inr (.inr e), 0)
theorem tcell_injective : Function.Injective tcell := by decide
def tokOf (ct : Dev nD × TK) : GSem nD τ sig × ℕ × Fin 7 := (kcell (ct.1, (tcell ct.2).1), 0, (tcell ct.2).2)
theorem tokOf_injective : Function.Injective tokOf := by
  intro a b h
  have h1 := Prod.mk.inj (kcell_injective (congrArg Prod.fst h))
  exact Prod.ext h1.1 (tcell_injective (Prod.ext h1.2 (congrArg (fun x : GSem nD τ sig × ℕ × Fin 7 => x.2.2) h)))
def exToks : Finset (GSem nD τ sig × ℕ × Fin 7) := Finset.univ.map ⟨tokOf, tokOf_injective⟩

/-- The launch element: the pipeline's, the exchange's, no counter. -/
def u₀ : UU :=
  (initOf (Pipeline.cells cfgs cellOf_inj) (Pipeline.launchToks cfgs cellOf_inj), (initOf exCells exToks, (1 : Counters)))

omit [FloatOps F] in
theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def toks (c : Dev nD) : sProp 𝕄 :=
  iprop((bigSep Finset.univ fun e : Fin 7 => dutyTok ER (barCell c) 0 e)
    ∗ (bigSep Finset.univ fun e : Fin 7 => dutyTok ER (sendCell c e) 0 0) ∗ (bigSep Finset.univ fun e : Fin 7 => dutyTok ER (recvCell c e) 0 0))

/-- What the launch element deals device `c`. -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)

omit [FloatOps F] in
theorem sum3 {A : Type} [Fintype A] (Φ : A ⊕ (Fin 7 ⊕ Fin 7) → sProp 𝕄) :
    bigSep Finset.univ Φ = iprop((bigSep Finset.univ fun a => Φ (.inl a)) ∗ (bigSep Finset.univ fun e => Φ (.inr (.inl e))) ∗ bigSep Finset.univ fun e => Φ (.inr (.inr e))) := by
  rw [BI.bigSep_univ_sum, BI.bigSep_univ_sum]; rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [sum3]; rfl
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(wSems c ∗ (bigSep Finset.univ fun e : Fin 7 => semVal (sendCell c e) 0) ∗ bigSep Finset.univ fun e : Fin 7 => semVal (recvCell c e) 0) := by
  unfold Pipeline.ownSems0 wSems; rw [sum3, BI.bigSep_fin_two]; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ iprop(wSems c ∗ bigSep Finset.univ fun k : CK => semVal (kcell (c, k)) 0 : sProp 𝕄) := by
  rw [ownSems0_eq, unscopedSems0_eq, sum3, show (Finset.univ : Finset Unit) = {()} from rfl, bigSep_singleton]
  iintro ⟨⟨Hw, HS, HV⟩, HB⟩
  isplitl [Hw]; · iexact Hw
  isplitl [HB]; · iexact HB
  isplitl [HS]; · iexact HS
  iexact HV

/-- What a device has once its cells' invariants are made. -/
def made (c : Dev nD) : sProp 𝕄 :=
  iprop(wSems c ∗ (bigSep Finset.univ fun k : CK => iprop(∃ κ : ℕ, cellInv ER (rd m ρ) κ (kcell (c, k))))
          ∗ (bigSep Finset.univ fun k : CK => iprop(atPos ER (kcell (c, k)) 0 ∅ 0 ∗ reached ER (kcell (c, k)) 0)) ∗ toks c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> made m ρ c := by
  unfold G made
  iintro ⟨Hos, Hus, Hst, Hat, Htok⟩
  ihave Hv := (sems0 (F := F) c) $$ [Hos Hus]
  · isplitl [Hos] <;> iassumption
  icases Hv with ⟨Hw, Hv⟩
  imod (show iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hw]; · iexact Hw
  isplitl [Hinv]; · iexact Hinv
  isplitl [Hat] <;> iassumption

/-! ### The tokens dealt around -/

/-- From a device and a transfer to the device met and the transfer that leads back. -/
def meet : Dev nD × Fin 7 ≃ Dev nD × Fin 7 where
  toFun x := (after x.1 x.2, x.2.rev)
  invFun x := (after x.1 x.2, x.2.rev)
  left_inv x := Prod.ext (after_after_rev x.1 x.2) (Fin.rev_rev x.2)
  right_inv x := Prod.ext (after_after_rev x.1 x.2) (Fin.rev_rev x.2)

/-- From a device and a transfer to the device met and the same transfer. -/
def reach : Dev nD × Fin 7 ≃ Dev nD × Fin 7 where
  toFun x := (after x.1 x.2, x.2)
  invFun x := (back x.1 (x.2.val + 1), x.2)
  left_inv x := Prod.ext (back_after x.1 x.2) rfl
  right_inv x := Prod.ext (after_back x.1 x.2) rfl

omit [FloatOps F] in
/-- A product over every device's transfers, in another order. -/
theorem deal (f : Dev nD × Fin 7 ≃ Dev nD × Fin 7) (Φ : Dev nD × Fin 7 → sProp 𝕄) :
    (bigSep Finset.univ fun c : Dev nD => bigSep Finset.univ fun e : Fin 7 => Φ (c, e))
      = bigSep Finset.univ fun c : Dev nD => bigSep Finset.univ fun e : Fin 7 => Φ (f (c, e)) := by
  rw [← bigSep_univ_prod Φ, bigSep_univ_equiv f Φ, bigSep_univ_prod]

/-- The tokens of the duties device `c` pays. -/
def payToks (c : Dev nD) : sProp 𝕄 :=
  iprop((bigSep Finset.univ fun e : Fin 7 => dutyTok ER (barCell (after c e)) 0 e.rev)
    ∗ (bigSep Finset.univ fun e : Fin 7 => dutyTok ER (sendCell c e) 0 0) ∗ (bigSep Finset.univ fun e : Fin 7 => dutyTok ER (recvCell (after c e) e) 0 0))

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep',
    deal meet (fun x => (dutyTok ER (barCell x.1) 0 x.2 : sProp 𝕄)),
    deal reach (fun x => (dutyTok ER (recvCell x.1 x.2) 0 0 : sProp 𝕄))]
  rfl

theorem deal_one (K : Kc) (c : Dev nD) :
    iprop(records m ρ K ∗ (wSems c ∗ (bigSep Finset.univ fun k : CK => atPos ER (kcell (c, k)) 0 ∅ 0) ∗ payToks c)) ⊢ dealt m ρ c := by
  unfold dealt linear payToks
  rw [sum3, show (Finset.univ : Finset Unit) = {()} from rfl, bigSep_singleton]
  iintro ⟨HR, Hw, ⟨HaB, HaS, HaV⟩, HtB, HtS, HtR⟩
  iexists K
  isplitl [HR]; · iexact HR
  isplitr [Hw]
  · isplitl [HaB HaS HaV]
    · isplitl [HaB]; · iexact HaB
      isplitl [HaS]; · iexact HaS
      iexact HaV
    isplitl [HtB]; · iexact HtB
    isplitl [HtS] <;> iassumption
  iexact Hw

omit [FloatOps F] in
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => made m ρ c) ⊢ bigSep Finset.univ (dealt m ρ) := by
  unfold made
  rw [bigSep_sep', bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨Hw, HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  iapply (each_with (R := records m ρ K) fun c _ => deal_one m ρ K c)
  rw [bigSep_sep', bigSep_sep']
  isplitr
  · unfold records; isplitl; · iexact HI
    iexact HR
  isplitl [Hw]; · iexact Hw
  isplitl [Hat] <;> iassumption

/-- Every device's semaphores and ghost state at once, made into what each device has. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ### The credit -/

theorem bar_ne_recv (a b : Dev nD) (e : Fin 7) : barCell a ≠ recvCell b e := fun h => by cases congrArg Prod.snd h
theorem kcell_eq (a b : Dev nD) (k k' : CK) : Iff (kcell (a, k) = kcell (b, k')) (a = b ∧ k = k') :=
  ⟨fun h => Prod.mk.inj (kcell_injective h), fun ⟨h, h'⟩ => by rw [h, h']⟩

/-- What all devices together owe one cell: the number of duties at it, times the amount of one. -/
theorem owed_all (g : GSem nD τ sig) :
    ∑ d : Dev nD, O₀ d g () = (∑ d : Dev nD, ∑ e : Fin 7, if g = recvCell (after d e) e then 1 else 0) * N
      + ∑ d : Dev nD, ∑ e : Fin 7, if g = barCell (after d e) then 1 else 0 := by
  rw [Finset.sum_mul, ← Finset.sum_add_distrib]
  refine Finset.sum_congr rfl fun d _ => ?_
  unfold O₀ OB OR
  rw [todo_zero, Pi.add_apply, Finsupp.add_apply, Finset.sum_apply, Finset.sum_apply, Finsupp.finset_sum_apply, Finsupp.finset_sum_apply, Finset.sum_mul]
  simp only [tallyAt_apply, and_true, ite_mul, one_mul, zero_mul]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_all]
  have h1 (d : Dev nD) (e : Fin 7) : (barCell c = recvCell (after d e) e) = False := eq_false (bar_ne_recv _ _ _)
  have h2 (d : Dev nD) (e : Fin 7) : (barCell c = barCell (after d e)) = (c = after d e) :=
    propext ⟨fun h => ((kcell_eq c (after d e) (.inl ()) (.inl ())).mp h).1, fun h => by rw [← h]⟩
  simp only [h1, h2, if_false, Finset.sum_const_zero, zero_mul, zero_add]
  revert c; decide

theorem launch_recv (c : Dev nD) (e : Fin 7) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, owed_all]
  have h1 (d : Dev nD) (e' : Fin 7) : (recvCell c e = barCell (after d e')) = False := eq_false fun h => bar_ne_recv _ _ _ h.symm
  have h2 (d : Dev nD) (e' : Fin 7) : (recvCell c e = recvCell (after d e') e') = (c = after d e' ∧ e = e') :=
    propext ⟨fun h => by
        have := (kcell_eq c (after d e') (.inr (.inr e)) (.inr (.inr e'))).mp h
        exact ⟨this.1, Sum.inr.inj (Sum.inr.inj this.2)⟩,
      fun h => by obtain ⟨h, rfl⟩ := h; rw [← h]⟩
  simp only [h1, h2, if_false, Finset.sum_const_zero, add_zero]
  rw [show (∑ d : Dev nD, ∑ e' : Fin 7, if c = after d e' ∧ e = e' then 1 else 0) = 1 from by revert c e; decide, one_mul]

theorem creds (c : Dev nD) : (Pipeline.launchCred O₀ c : sProp 𝕄) ⊢ credits c := by
  unfold Pipeline.launchCred credits
  rw [bigSep_univ_at _ (SemLoc.reg barS), launch_bar]
  refine sep_mono_right ?_
  have hinj : Function.Injective fun e : Fin 7 => (SemLoc.dma (rS e) : SemLoc sig) := by decide
  refine BI.Entails.trans (bigSep_subset (t := Finset.univ.map ⟨_, hinj⟩) ?_) ?_
  · intro s hs
    obtain ⟨e, -, rfl⟩ := Finset.mem_map.mp hs
    exact Finset.mem_erase.mpr ⟨(fun h => by cases h), Finset.mem_univ _⟩
  · rw [bigSep_map]
    exact Entails.of_eq (bigSep_congr fun e _ => congrArg cred (launch_recv c e))

/-! ### Entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start
  isplitl
  · isplitl [HG]; · iexact HG
    isplitl [Hlev]; · iexact Hlev
    isplitl [Hc]; · iexact Hc
    unfold wPts wAt; iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop((unscopedSems0 c ∗ wPts m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ closed scratch
  iintro ⟨⟨HzB, HzS, HzR⟩, Hscr, Hw, Hv⟩
  isplitl [HzB Hw]
  · isplitl [HzB] <;> iassumption
  isplitl [Hv HzS HzR]
  · isplitl [Hv]; · iexact Hv
    isplitl [HzS] <;> iassumption
  iexact Hscr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

omit [FloatOps F] in
/-- The right operand's contents are read off what the device holds of it. -/
theorem w_read (c : Dev nD) (s' : Phys nD τ sig (Elt F)) :
    iprop(wPts m c ∗ SI s') ⊢ (iprop(⌜s'.mem.mem ((c : Thread nD τ).loc main_arg1) = wAt m c⌝ ∗ SI s') : sProp 𝕄) := by
  have h := pointsTo_read_all (Ix := Unit) (Name := ℕ) (U := UU) (Lvl := ℕ) ({()} : Finset Unit) (fun _ => (c : Thread nD τ).loc main_arg1) (fun _ => wAt m c) s'
  rw [bigSep_singleton] at h
  unfold wPts
  iintro H
  ihave H' := h $$ H
  icases H' with ⟨%hr, HSI⟩
  isplitr; · ipureintro; exact hr () (Finset.mem_singleton_self _)
  iexact HSI

/-! ## The run -/

def finalA (c : Dev nD) (w : Fin cfg0.W) : Buf (Elt F) ((cfg0.win w).arr.view.loc (c : Thread nD τ)) := (dats m ρ 0 c).arrAt w cfg0.N

/-- The final memory: each window's array as the pipeline left it, the right operand as it was. -/
def Final (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = wAt m c

set_option maxRecDepth 8000 in
/-- From any memory with zero counters, for any float values: every weakly fair execution on the eight devices ends,
    and every final state has the arrays at the contents computed and every semaphore counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_split (F := F) _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => iprop(unscopedSems0 c ∗ wPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wAt m c)
    (hY := fun c s' => by
      iintro ⟨⟨Hu, Hw⟩, -, HSI⟩
      ihave H := (w_read m c s') $$ [Hw HSI]
      · isplitl [Hw] <;> iassumption
      icases H with ⟨%hw, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hw⟩
      iexact HSI)
    (hQ := fun _ h hs => ⟨fun c => ⟨fun w => (h c).1 w, (h c).2.2.2⟩, sem_eq_zero hs fun c => (h c).2.2.1⟩)

/-- The left operand's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array, one block, read back is what the body left of it: the sum of the eight products. -/
theorem finalA_o (c : Dev nD) : (win0_1.blk (0 : Fin 1)).view.read (Elt F) (finalA m ρ c (1 : Fin 2)) = acc m ρ c 7 := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.Exchange

end
-- ==== Proof.Value.lean ====
/-
# The value of the exchange over the extended reals

Over the extended reals rounding is the identity, so the sum that device `c`
accumulates, one product of blocks for each device, is block `c` of rows of the
product of the whole arrays: the devices' blocks of columns of the left array
and of rows of the right one cut the sum over the contracted coordinate in eight.
-/
module

public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.Exchange

open Cert.KernelIdeal Cert.KernelIdeal.Gen
open Idealize.ShloMosaic Idealize.ShloMosaic.TcCoe
open scoped BigOperators

/-! ## Blocks of the contracted coordinate -/

/-- Coordinate `r` of block `q`, when 4096 coordinates are cut in eight blocks of 512. -/
def inPart (q : Fin 8) (r : Fin 512) : Fin 4096 := ⟨512 * q.val + r.val, by have := q.isLt; have := r.isLt; omega⟩

/-- A sum over the coordinates is the sum of the sums over the blocks. -/
theorem sum_parts (f : Fin 4096 → EReal) : ∑ q : Fin 8, ∑ k : Fin 512, f (inPart q k) = ∑ k : Fin 4096, f k := by
  rw [← Equiv.sum_comp (finProdFinEquiv (m := 8) (n := 512)) f, Fintype.sum_prod_type]
  exact Finset.sum_congr rfl fun q _ => Finset.sum_congr rfl fun k _ =>
    congrArg f (Fin.ext (Nat.add_comm _ _))

/-- The device `d` places before, taken twice, is where it started. -/
theorem back_back (c : Fin 8) : Function.Involutive (fun e : Fin 8 => back c e.val) := fun e => by
  revert c e; decide

/-- The eight devices before `c`, nearest first, are all of them. -/
theorem sum_back (c : Fin 8) (f : Fin 8 → EReal) : ∑ e ∈ Finset.range 8, f (back c e) = ∑ q : Fin 8, f q := by
  rw [Finset.sum_range]
  exact Equiv.sum_comp (back_back c).toPerm f

/-! ## The blocks multiplied -/

variable (m : (ℓ : Loc nD τ sig) → Buf (Elt Ideal) ℓ) (ρ : Dev nD → PrngReg)
variable (X : Cert.ReferenceIdeal.S4096x4096.Idx → EReal) (W : S4096x2048.Idx → EReal)

/-- Each device holds its block of columns of the left array, and the whole right array. -/
def Holds : Prop := ∀ c : Dev nD,
  (m ((c.tc : Thread nD τ).loc main_arg0) = Layout.block ⟨2, ![4096, 512]⟩ ⟨2, ![4096, 4096]⟩ 1 8 c X)
    ∧ m ((c.tc : Thread nD τ).loc main_arg1) = W

variable {m X W}

/-- The staged left operand is the device's block of columns. -/
theorem xstg_apply (h : Holds m X W) (c : Dev nD) (i : Fin 4096) (k : Fin 512) :
    xstg m ρ c (ix2 i k) = X (ix2 i (inPart c k)) := by
  have hz : (fun a => (win0_0.index (0 : Fin 1)) a * main_arg0.ty.shape.size a) = fun _ => 0 :=
    funext fun a => by fin_cases a <;> decide
  have hr := fun f => Memref.read_access_unit_zero (Elt Ideal) main_arg0 hz (fun a => by fin_cases a <;> decide) f
  unfold xstg s₀
  rw [hr]
  dsimp only
  rw [(h c).1, Layout.block_apply]
  refine congrArg X (Shape.idx_ext₂ rfl ?_)
  show c.val * 512 + k.val = 512 * c.val + k.val
  rw [Nat.mul_comm]

/-- The left factor of step `d` is the block of the left array in the device's rows and the columns of the device `d` places before. -/
theorem xblk_apply (h : Holds m X W) (c : Dev nD) (d : ℕ) (r k : Fin 512) :
    xblk m ρ c d (ix3 0 r k) = X (ix2 (inPart c r) (inPart (back c d) k)) := by
  rw [← xstg_apply ρ h]
  unfold xblk XS k0_pay1
  pointwise
  exact congrArg (xstg m ρ (back c d)) (Shape.idx_ext₂ rfl rfl)

/-- The right factor of step `d` is the rows of the right array that meet those columns. -/
theorem wblk_apply (h : Holds m X W) (c : Dev nD) (d : ℕ) (k : Fin 512) (l : Fin 2048) :
    wblk m c d (ix3 0 k l) = W (ix2 (inPart (back c d) k) l) := by
  unfold wblk wAt
  rw [(h c).2]
  exact congrArg W (Shape.idx_ext₂ rfl rfl)

/-! ## The sum accumulated -/

/-- The part of the product that the columns of device `q` contribute. -/
def term (X : Cert.ReferenceIdeal.S4096x4096.Idx → EReal) (W : S4096x2048.Idx → EReal) (i : Fin 4096) (l : Fin 2048) (q : Fin 8) : EReal :=
  ∑ k : Fin 512, X (ix2 i (inPart q k)) * W (ix2 (inPart q k) l)

/-- One step's product of blocks is the part contributed by the device `d` places before. -/
theorem step_apply (h : Holds m X W) (c : Dev nD) (d : ℕ) (r : Fin 512) (l : Fin 2048) :
    k0_pay10 (F := Ideal) (xblk m ρ c d) (wblk m c d) (ix2 r l) = term X W (inPart c r) l (back c d) := by
  unfold k0_pay10 term
  pointwise
  simp only [xblk_apply ρ h, wblk_apply h]

/-- A later step adds its product of blocks to the sum it finds. -/
theorem add_step (x : Vec Ideal S1x512x512 .bf16) (w : Vec Ideal S1x512x2048 .f32) (a : Vec Ideal S512x2048 .f32)
    (r : Fin 512) (l : Fin 2048) : k0_pay11 x w a (ix2 r l) = a (ix2 r l) + k0_pay10 x w (ix2 r l) := by
  unfold k0_pay11 k0_pay10
  pointwise

/-- The sum accumulated after step `n` is what the devices up to `n` places before contribute. -/
theorem acc_apply (h : Holds m X W) (c : Dev nD) (r : Fin 512) (l : Fin 2048) : ∀ n : ℕ,
    acc m ρ c n (ix2 r l) = ∑ e ∈ Finset.range (n + 1), term X W (inPart c r) l (back c e)
  | 0 => by rw [Finset.sum_range_one]; exact step_apply ρ h c 0 r l
  | n + 1 => by
    rw [Finset.sum_range_succ, ← acc_apply h c r l n, ← step_apply ρ h c (n + 1) r l]
    exact add_step _ _ _ _ _

/-- The product of the whole arrays. -/
def product (X : Cert.ReferenceIdeal.S4096x4096.Idx → EReal) (W : S4096x2048.Idx → EReal) : S4096x2048.Idx → EReal :=
  Host.dotGeneral (F := Ideal) (φ₁ := .f32) (φ₂ := .f32)
    Cert.ReferenceIdeal.dot_S4096x4096_S4096x2048_S4096x2048_1_0_0_1_n_n none X W

/-- What device `c` has accumulated at the end is its block of rows of the product of the whole arrays. -/
theorem acc_last (h : Holds m X W) (c : Dev nD) :
    acc m ρ c 7 = Layout.block ⟨2, ![512, 2048]⟩ ⟨2, ![4096, 2048]⟩ 0 8 c (product X W) := by
  funext j
  obtain ⟨r, l, rfl⟩ : ∃ (r : Fin 512) (l : Fin 2048), j = ix2 r l := ⟨j 0, j 1, eq_ix2 j⟩
  rw [acc_apply ρ h, sum_back c (term X W (inPart c r) l), Layout.block_apply]
  have hi : (Layout.Tiles.idx (S := ⟨2, ![512, 2048]⟩) (T := ⟨2, ![4096, 2048]⟩) (a := 0) (k := 8) (by decide) c (ix2 r l))
      = ix2 (inPart c r) l := by
    refine Shape.idx_ext₂ ?_ rfl
    show c.val * 512 + r.val = 512 * c.val + r.val
    rw [Nat.mul_comm]
  refine ((sum_parts fun k => X (ix2 (inPart c r) k) * W (ix2 k l)).trans ?_).trans (congrArg (product X W) hi).symm
  unfold product
  pointwise

/-- The result array of device `c` is its block of rows of the product of the whole arrays. -/
theorem final_result (h : Holds m X W) (c : Dev nD) :
    finalA m ρ c (1 : Fin 2) = Layout.block ⟨2, ![512, 2048]⟩ ⟨2, ![4096, 2048]⟩ 0 8 c (product X W) := by
  have hz : (fun a => (win0_1.index (0 : Fin 1)) a * main_v1.ty.shape.size a) = fun _ => 0 :=
    funext fun a => by fin_cases a <;> decide
  have ho := finalA_o m ρ c
  rw [acc_last ρ h] at ho
  exact (Memref.read_access_unit_zero (Elt Ideal) main_v1 hz (fun a => by fin_cases a <;> decide) _).symm.trans ho

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- For any float values the kernel ends on all eight devices, its operands unchanged and every semaphore at zero. -/
theorem run_args {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨((h.1 c).1 (0 : Fin 2)).trans (Cert.Exchange.finalA_x m ρ c), (h.1 c).2⟩, h.2⟩)
    (Cert.Exchange.run_main m ρ)

/-- The kernel's program and its ideal program have the same body table. -/
theorem bodies_eq {F : FTy → Type} [FloatOps F] : Cert.Kernel.defs₀ (F := F) = Cert.KernelIdeal.defs₀ := by
  refine congrArg Defs.onTc (funext fun l => funext fun a => ?_)
  match l, a with
  | 0, (_, _) => rfl

/-- So the same table with the pipeline's entries. -/
theorem table_eq {F : FTy → Type} [FloatOps F] : Cert.Kernel.defs (F := F) = Cert.KernelIdeal.defs :=
  congrArg (Pipeline.defs Cert.KernelIdeal.pcfgs) bodies_eq

/-- The run on the machine's words, and -/
theorem frame_kernel : Cert.quiescent_Kernel := fun m ρ _ => by
  rw [table_eq]
  exact run_args (F := Bits) m ρ

/-- over the extended reals. -/
theorem frame_ideal : Cert.quiescent_KernelIdeal := fun m ρ _ => run_args (F := Ideal) m ρ

/-- The reference ends, its operands unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals each device's result is its block of rows of the reference's product. -/
theorem algebraic : Cert.algebraic_KernelIdeal_ReferenceIdeal := fun m ρ m' ρ' _ h =>
  ⟨_, (θ_run Cert.KernelIdeal.defs _ _).mono
      (fun _ hr c => ⟨((hr.1 c).1 (1 : Fin 2)).trans (Cert.Exchange.final_result ρ h c),
        ((hr.1 c).1 (0 : Fin 2)).trans (Cert.Exchange.finalA_x m ρ c), (hr.1 c).2⟩)
      (Cert.Exchange.run_main (F := Ideal) m ρ),
    (θ_run Cert.ReferenceIdeal.defs _ _).mono (fun _ hr => hr 0) (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
